-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 512]⟩ ⟨2, ![2048, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![512, 32768]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 1024]⟩ ⟨2, ![512, 32768]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 1024]⟩ ⟨2, ![512, 32768]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 512]⟩ ⟨2, ![2048, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512 : Shape := ⟨2, ![64, 512]⟩
abbrev S512x1024 : Shape := ⟨2, ![512, 1024]⟩
abbrev S1024x512 : Shape := ⟨2, ![1024, 512]⟩
abbrev S2048x512 : Shape := ⟨2, ![2048, 512]⟩
abbrev S32 : Shape := ⟨1, ![32]⟩
abbrev S_ : Shape := ⟨0, ![]⟩
abbrev S1 : Shape := ⟨1, ![1]⟩
abbrev S256x512 : Shape := ⟨2, ![256, 512]⟩
abbrev S256x1024 : Shape := ⟨2, ![256, 1024]⟩

abbrev nBuf : Space → Nat
  | .hbm => 8
  | .vmem => 11
  | .smem => 0
  | _ => 0

abbrev bufTy : (tb : Table) → Fin (tcTables nBuf tb) → BufTy
  | .hbm, ⟨0, _⟩ => ⟨S64x512, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S64x512, .f32⟩
  | .local _ .vmem, ⟨0, _⟩ => ⟨S64x512, .f32⟩
  | .local _ .vmem, ⟨1, _⟩ => ⟨S512x1024, .f32⟩
  | .local _ .vmem, ⟨2, _⟩ => ⟨S1024x512, .f32⟩
  | .local _ .vmem, ⟨3, _⟩ => ⟨S512x1024, .f32⟩
  | .local _ .vmem, ⟨4, _⟩ => ⟨S1024x512, .f32⟩
  | .local _ .vmem, ⟨5, _⟩ => ⟨S512x1024, .f32⟩
  | .local _ .vmem, ⟨6, _⟩ => ⟨S1024x512, .f32⟩
  | .local _ .vmem, ⟨7, _⟩ => ⟨S64x512, .f32⟩
  | .local _ .vmem, ⟨8, _⟩ => ⟨S2048x512, .f32⟩
  | .local _ .vmem, ⟨9, _⟩ => ⟨S2048x512, .f32⟩
  | .local _ .vmem, ⟨10, _⟩ => ⟨S2048x512, .f32⟩
  | _, _ => ⟨S64x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 136 → Bool
  | ⟨i, _⟩ => dmaSemScopedAt i

abbrev sig : RefSig :=
  (ofTc nBuf bufTy 1 136 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2 : BitVec 32 := 1#32
  let v5 : BitVec 32 := Scalar.subi v2 c1_i32_2
  let c32_i32_3 : BitVec 32 := 32#32
  let v6 : BitVec 32 := Scalar.addi v5 c32_i32_3
  let c32_i32_4 : BitVec 32 := 32#32
  let v7 : BitVec 32 := Scalar.remsi v6 c32_i32_4
  let c1_i32_6 : BitVec 32 := 1#32
  let v9 : BitVec 32 := Scalar.muli v7 c1_i32_6
  let v10 : BitVec 32 := Scalar.addi c0_i32 v9
  v10.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32 : BitVec 32 := 64#32
  let v11 : BitVec 32 := Scalar.muli v2 c64_i32
  let v14 : Index := Scalar.indexCast v11
  let c0_9 : Index := 0#32
  ![v14.toNat, 0]
@[reducible] def k0_t1_loop : Scf.Loop 32 :=
  let c0_i32_10 : BitVec 32 := 0#32
  let c31_i32 : BitVec 32 := 31#32
  let v18 : BitVec 32 := Scalar.addi c0_i32_10 c31_i32
  let c1_i32_11 : BitVec 32 := 1#32
  ⟨c0_i32_10, v18, c1_i32_11⟩
def k0_off2 (k0_t1 : Fin k0_t1_loop.trips) : Fin 1 → Nat :=
  let c0_i32_10 : BitVec 32 := 0#32
  let c1_i32_11 : BitVec 32 := 1#32
  let arg15 : BitVec 32 := Scf.iv c0_i32_10 c1_i32_11 k0_t1
  ![arg15.toNat]
def k0_off3 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_10 : BitVec 32 := 0#32
  let c1_i32_11 : BitVec 32 := 1#32
  let arg15 : BitVec 32 := Scf.iv c0_i32_10 c1_i32_11 k0_t1
  let v351 : BitVec 32 := Scalar.subi v2 arg15
  let c32_i32_319 : BitVec 32 := 32#32
  let v352 : BitVec 32 := Scalar.addi v351 c32_i32_319
  let c32_i32_320 : BitVec 32 := 32#32
  let v353 : BitVec 32 := Scalar.remsi v352 c32_i32_320
  let c64_i32_322 : BitVec 32 := 64#32
  let v355 : BitVec 32 := Scalar.muli v353 c64_i32_322
  let c0_i32_325 : BitVec 32 := 0#32
  ![v355.toNat, 0]
def k0_dev2 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_323 : BitVec 32 := 1#32
  let v356 : BitVec 32 := Scalar.muli v4 c1_i32_323
  let v357 : BitVec 32 := Scalar.addi c0_i32_324 v356
  v357.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_93 : BitVec 32 := 1#32
  let v115 : BitVec 32 := Scalar.subi v2 c1_i32_93
  let c32_i32_94 : BitVec 32 := 32#32
  let v116 : BitVec 32 := Scalar.addi v115 c32_i32_94
  let c32_i32_95 : BitVec 32 := 32#32
  let v117 : BitVec 32 := Scalar.remsi v116 c32_i32_95
  let c64_i32_96 : BitVec 32 := 64#32
  let v118 : BitVec 32 := Scalar.muli v117 c64_i32_96
  let v119 : Index := Scalar.indexCast v118
  let c0_97 : Index := 0#32
  ![v119.toNat, 0]
@[reducible] def k0_t2_loop : Scf.Loop 32 :=
  let c0_i32_100 : BitVec 32 := 0#32
  let c31_i32_101 : BitVec 32 := 31#32
  let v124 : BitVec 32 := Scalar.addi c0_i32_100 c31_i32_101
  let c1_i32_102 : BitVec 32 := 1#32
  ⟨c0_i32_100, v124, c1_i32_102⟩
def k0_off5 (k0_t2 : Fin k0_t2_loop.trips) : Fin 1 → Nat :=
  let c0_i32_100 : BitVec 32 := 0#32
  let c1_i32_102 : BitVec 32 := 1#32
  let arg15 : BitVec 32 := Scf.iv c0_i32_100 c1_i32_102 k0_t2
  ![arg15.toNat]
def k0_off6 (k0_t2 : Fin k0_t2_loop.trips) : Fin 2 → Nat :=
  let c0_i32_100 : BitVec 32 := 0#32
  let c1_i32_102 : BitVec 32 := 1#32
  let arg15 : BitVec 32 := Scf.iv c0_i32_100 c1_i32_102 k0_t2
  let c1_i32_320 : BitVec 32 := 1#32
  let v352 : BitVec 32 := Scalar.addi arg15 c1_i32_320
  let c64_i32_321 : BitVec 32 := 64#32
  let v353 : BitVec 32 := Scalar.muli v352 c64_i32_321
  let c0_i32_324 : BitVec 32 := 0#32
  ![v353.toNat, 0]
def k0_off7 (k0_t2 : Fin k0_t2_loop.trips) : Fin 2 → Nat :=
  let c0_i32_100 : BitVec 32 := 0#32
  let c1_i32_102 : BitVec 32 := 1#32
  let arg15 : BitVec 32 := Scf.iv c0_i32_100 c1_i32_102 k0_t2
  let c64_i32_319 : BitVec 32 := 64#32
  let v351 : BitVec 32 := Scalar.muli arg15 c64_i32_319
  let c0_i32_325 : BitVec 32 := 0#32
  ![v351.toNat, 0]
def k0_dev3 (d0 : Dev nD) : Nat :=
  let c0_i32_323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_322 : BitVec 32 := 1#32
  let v354 : BitVec 32 := Scalar.muli v4 c1_i32_322
  let v355 : BitVec 32 := Scalar.addi c0_i32_323 v354
  v355.toNat
def k0_off8 (k0_t2 : Fin k0_t2_loop.trips) : Fin 2 → Nat :=
  let c0_i32_100 : BitVec 32 := 0#32
  let c1_i32_102 : BitVec 32 := 1#32
  let arg15 : BitVec 32 := Scf.iv c0_i32_100 c1_i32_102 k0_t2
  let c1_i32_335 : BitVec 32 := 1#32
  let v376 : BitVec 32 := Scalar.addi arg15 c1_i32_335
  let c64_i32_336 : BitVec 32 := 64#32
  let v377 : BitVec 32 := Scalar.muli v376 c64_i32_336
  let v378 : Index := Scalar.indexCast v377
  let c0_337 : Index := 0#32
  ![v378.toNat, 0]
def k0_off9 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v372 : BitVec 32 := Scalar.subi v2 c2_i32
  let c0_i32_100 : BitVec 32 := 0#32
  let c1_i32_102 : BitVec 32 := 1#32
  let arg15 : BitVec 32 := Scf.iv c0_i32_100 c1_i32_102 k0_t2
  let v373 : BitVec 32 := Scalar.subi v372 arg15
  let c64_i32_333 : BitVec 32 := 64#32
  let v374 : BitVec 32 := Scalar.addi v373 c64_i32_333
  let c32_i32_334 : BitVec 32 := 32#32
  let v375 : BitVec 32 := Scalar.remsi v374 c32_i32_334
  let c64_i32_338 : BitVec 32 := 64#32
  let v380 : BitVec 32 := Scalar.muli v375 c64_i32_338
  let v381 : Index := Scalar.indexCast v380
  let c0_339 : Index := 0#32
  ![v381.toNat, 0]
@[reducible] def k0_t3_loop : Scf.Loop 32 :=
  let c0_i32_106 : BitVec 32 := 0#32
  let c31_i32_107 : BitVec 32 := 31#32
  let v130 : BitVec 32 := Scalar.addi c0_i32_106 c31_i32_107
  let c1_i32_108 : BitVec 32 := 1#32
  ⟨c0_i32_106, v130, c1_i32_108⟩
def k0_off10 (k0_t3 : Fin k0_t3_loop.trips) : Fin 1 → Nat :=
  let c0_i32_106 : BitVec 32 := 0#32
  let c1_i32_108 : BitVec 32 := 1#32
  let arg15 : BitVec 32 := Scf.iv c0_i32_106 c1_i32_108 k0_t3
  ![arg15.toNat]
def k0_off11 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_106 : BitVec 32 := 0#32
  let c1_i32_108 : BitVec 32 := 1#32
  let arg15 : BitVec 32 := Scf.iv c0_i32_106 c1_i32_108 k0_t3
  let v351 : BitVec 32 := Scalar.subi v2 arg15
  let c32_i32_319 : BitVec 32 := 32#32
  let v352 : BitVec 32 := Scalar.addi v351 c32_i32_319
  let c32_i32_320 : BitVec 32 := 32#32
  let v353 : BitVec 32 := Scalar.remsi v352 c32_i32_320
  let c64_i32_322 : BitVec 32 := 64#32
  let v355 : BitVec 32 := Scalar.muli v353 c64_i32_322
  let c0_i32_325 : BitVec 32 := 0#32
  ![v355.toNat, 0]
def k0_dev4 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_323 : BitVec 32 := 1#32
  let v356 : BitVec 32 := Scalar.muli v4 c1_i32_323
  let v357 : BitVec 32 := Scalar.addi c0_i32_324 v356
  v357.toNat
@[reducible] def k0_t4_loop : Scf.Loop 32 :=
  let c0_i32_205 : BitVec 32 := 0#32
  let c31_i32_206 : BitVec 32 := 31#32
  let v236 : BitVec 32 := Scalar.addi c0_i32_205 c31_i32_206
  let c1_i32_207 : BitVec 32 := 1#32
  ⟨c0_i32_205, v236, c1_i32_207⟩
def k0_off12 (k0_t4 : Fin k0_t4_loop.trips) : Fin 1 → Nat :=
  let c0_i32_205 : BitVec 32 := 0#32
  let c1_i32_207 : BitVec 32 := 1#32
  let arg15 : BitVec 32 := Scf.iv c0_i32_205 c1_i32_207 k0_t4
  ![arg15.toNat]
def k0_off13 (k0_t4 : Fin k0_t4_loop.trips) : Fin 2 → Nat :=
  let c0_i32_205 : BitVec 32 := 0#32
  let c1_i32_207 : BitVec 32 := 1#32
  let arg15 : BitVec 32 := Scf.iv c0_i32_205 c1_i32_207 k0_t4
  let c1_i32_320 : BitVec 32 := 1#32
  let v352 : BitVec 32 := Scalar.addi arg15 c1_i32_320
  let c64_i32_321 : BitVec 32 := 64#32
  let v353 : BitVec 32 := Scalar.muli v352 c64_i32_321
  let c0_i32_324 : BitVec 32 := 0#32
  ![v353.toNat, 0]
def k0_off14 (k0_t4 : Fin k0_t4_loop.trips) : Fin 2 → Nat :=
  let c0_i32_205 : BitVec 32 := 0#32
  let c1_i32_207 : BitVec 32 := 1#32
  let arg15 : BitVec 32 := Scf.iv c0_i32_205 c1_i32_207 k0_t4
  let c64_i32_319 : BitVec 32 := 64#32
  let v351 : BitVec 32 := Scalar.muli arg15 c64_i32_319
  let c0_i32_325 : BitVec 32 := 0#32
  ![v351.toNat, 0]
def k0_dev5 (d0 : Dev nD) : Nat :=
  let c0_i32_323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_322 : BitVec 32 := 1#32
  let v354 : BitVec 32 := Scalar.muli v4 c1_i32_322
  let v355 : BitVec 32 := Scalar.addi c0_i32_323 v354
  v355.toNat
def k0_off15 (k0_t4 : Fin k0_t4_loop.trips) : Fin 2 → Nat :=
  let c0_i32_205 : BitVec 32 := 0#32
  let c1_i32_207 : BitVec 32 := 1#32
  let arg15 : BitVec 32 := Scf.iv c0_i32_205 c1_i32_207 k0_t4
  let c1_i32_335 : BitVec 32 := 1#32
  let v376 : BitVec 32 := Scalar.addi arg15 c1_i32_335
  let c64_i32_336 : BitVec 32 := 64#32
  let v377 : BitVec 32 := Scalar.muli v376 c64_i32_336
  let v378 : Index := Scalar.indexCast v377
  let c0_337 : Index := 0#32
  ![v378.toNat, 0]
def k0_off16 (d0 : Dev nD) (k0_t4 : Fin k0_t4_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v372 : BitVec 32 := Scalar.subi v2 c2_i32
  let c0_i32_205 : BitVec 32 := 0#32
  let c1_i32_207 : BitVec 32 := 1#32
  let arg15 : BitVec 32 := Scf.iv c0_i32_205 c1_i32_207 k0_t4
  let v373 : BitVec 32 := Scalar.subi v372 arg15
  let c64_i32_333 : BitVec 32 := 64#32
  let v374 : BitVec 32 := Scalar.addi v373 c64_i32_333
  let c32_i32_334 : BitVec 32 := 32#32
  let v375 : BitVec 32 := Scalar.remsi v374 c32_i32_334
  let c64_i32_338 : BitVec 32 := 64#32
  let v380 : BitVec 32 := Scalar.muli v375 c64_i32_338
  let v381 : Index := Scalar.indexCast v380
  let c0_339 : Index := 0#32
  ![v381.toNat, 0]
@[reducible] def k0_t5_loop : Scf.Loop 32 :=
  let c0_i32_212 : BitVec 32 := 0#32
  let c31_i32_213 : BitVec 32 := 31#32
  let v242 : BitVec 32 := Scalar.addi c0_i32_212 c31_i32_213
  let c1_i32_214 : BitVec 32 := 1#32
  ⟨c0_i32_212, v242, c1_i32_214⟩
def k0_off17 (k0_t5 : Fin k0_t5_loop.trips) : Fin 1 → Nat :=
  let c0_i32_212 : BitVec 32 := 0#32
  let c1_i32_214 : BitVec 32 := 1#32
  let arg15 : BitVec 32 := Scf.iv c0_i32_212 c1_i32_214 k0_t5
  ![arg15.toNat]
def k0_off18 (d0 : Dev nD) (k0_t5 : Fin k0_t5_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_212 : BitVec 32 := 0#32
  let c1_i32_214 : BitVec 32 := 1#32
  let arg15 : BitVec 32 := Scf.iv c0_i32_212 c1_i32_214 k0_t5
  let v351 : BitVec 32 := Scalar.subi v2 arg15
  let c32_i32_319 : BitVec 32 := 32#32
  let v352 : BitVec 32 := Scalar.addi v351 c32_i32_319
  let c32_i32_320 : BitVec 32 := 32#32
  let v353 : BitVec 32 := Scalar.remsi v352 c32_i32_320
  let c64_i32_322 : BitVec 32 := 64#32
  let v355 : BitVec 32 := Scalar.muli v353 c64_i32_322
  let c0_i32_325 : BitVec 32 := 0#32
  ![v355.toNat, 0]
def k0_dev6 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_323 : BitVec 32 := 1#32
  let v356 : BitVec 32 := Scalar.muli v4 c1_i32_323
  let v357 : BitVec 32 := Scalar.addi c0_i32_324 v356
  v357.toNat
@[reducible] def k0_t6_loop : Scf.Loop 32 :=
  let c0_i32_311 : BitVec 32 := 0#32
  let c31_i32_312 : BitVec 32 := 31#32
  let v348 : BitVec 32 := Scalar.addi c0_i32_311 c31_i32_312
  let c1_i32_313 : BitVec 32 := 1#32
  ⟨c0_i32_311, v348, c1_i32_313⟩
def k0_off19 (k0_t6 : Fin k0_t6_loop.trips) : Fin 1 → Nat :=
  let c0_i32_311 : BitVec 32 := 0#32
  let c1_i32_313 : BitVec 32 := 1#32
  let arg15 : BitVec 32 := Scf.iv c0_i32_311 c1_i32_313 k0_t6
  ![arg15.toNat]
def k0_off20 (k0_t6 : Fin k0_t6_loop.trips) : Fin 2 → Nat :=
  let c0_i32_311 : BitVec 32 := 0#32
  let c1_i32_313 : BitVec 32 := 1#32
  let arg15 : BitVec 32 := Scf.iv c0_i32_311 c1_i32_313 k0_t6
  let c1_i32_320 : BitVec 32 := 1#32
  let v352 : BitVec 32 := Scalar.addi arg15 c1_i32_320
  let c64_i32_321 : BitVec 32 := 64#32
  let v353 : BitVec 32 := Scalar.muli v352 c64_i32_321
  let c0_i32_324 : BitVec 32 := 0#32
  ![v353.toNat, 0]
def k0_off21 (k0_t6 : Fin k0_t6_loop.trips) : Fin 2 → Nat :=
  let c0_i32_311 : BitVec 32 := 0#32
  let c1_i32_313 : BitVec 32 := 1#32
  let arg15 : BitVec 32 := Scf.iv c0_i32_311 c1_i32_313 k0_t6
  let c64_i32_319 : BitVec 32 := 64#32
  let v351 : BitVec 32 := Scalar.muli arg15 c64_i32_319
  let c0_i32_325 : BitVec 32 := 0#32
  ![v351.toNat, 0]
def k0_dev7 (d0 : Dev nD) : Nat :=
  let c0_i32_323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_322 : BitVec 32 := 1#32
  let v354 : BitVec 32 := Scalar.muli v4 c1_i32_322
  let v355 : BitVec 32 := Scalar.addi c0_i32_323 v354
  v355.toNat
def k0_off22 (k0_t6 : Fin k0_t6_loop.trips) : Fin 2 → Nat :=
  let c0_i32_311 : BitVec 32 := 0#32
  let c1_i32_313 : BitVec 32 := 1#32
  let arg15 : BitVec 32 := Scf.iv c0_i32_311 c1_i32_313 k0_t6
  let c1_i32_335 : BitVec 32 := 1#32
  let v376 : BitVec 32 := Scalar.addi arg15 c1_i32_335
  let c64_i32_336 : BitVec 32 := 64#32
  let v377 : BitVec 32 := Scalar.muli v376 c64_i32_336
  let v378 : Index := Scalar.indexCast v377
  let c0_337 : Index := 0#32
  ![v378.toNat, 0]
def k0_off23 (d0 : Dev nD) (k0_t6 : Fin k0_t6_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v372 : BitVec 32 := Scalar.subi v2 c2_i32
  let c0_i32_311 : BitVec 32 := 0#32
  let c1_i32_313 : BitVec 32 := 1#32
  let arg15 : BitVec 32 := Scf.iv c0_i32_311 c1_i32_313 k0_t6
  let v373 : BitVec 32 := Scalar.subi v372 arg15
  let c64_i32_333 : BitVec 32 := 64#32
  let v374 : BitVec 32 := Scalar.addi v373 c64_i32_333
  let c32_i32_334 : BitVec 32 := 32#32
  let v375 : BitVec 32 := Scalar.remsi v374 c32_i32_334
  let c64_i32_338 : BitVec 32 := 64#32
  let v380 : BitVec 32 := Scalar.muli v375 c64_i32_338
  let v381 : Index := Scalar.indexCast v380
  let c0_339 : Index := 0#32
  ![v381.toNat, 0]
abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S2048x512 : Shape := ⟨2, ![2048, 512]⟩
abbrev S512x32768 : Shape := ⟨2, ![512, 32768]⟩
abbrev S32768x512 : Shape := ⟨2, ![32768, 512]⟩
abbrev S2048x32768 : Shape := ⟨2, ![2048, 32768]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x32768, .f32⟩
  | .hbm, ⟨2, _⟩ => ⟨S512x32768, .f32⟩
  | .hbm, ⟨3, _⟩ => ⟨S512x32768, .f32⟩
  | .hbm, ⟨4, _⟩ => ⟨S32768x512, .f32⟩
  | .hbm, ⟨5, _⟩ => ⟨S32768x512, .f32⟩
  | .hbm, ⟨6, _⟩ => ⟨S32768x512, .f32⟩
  | .hbm, ⟨7, _⟩ => ⟨S2048x32768, .f32⟩
  | .hbm, ⟨8, _⟩ => ⟨S_, .f32⟩
  | .hbm, ⟨9, _⟩ => ⟨S2048x32768, .f32⟩
  | .hbm, ⟨10, _⟩ => ⟨S2048x32768, .f32⟩
  | .hbm, ⟨11, _⟩ => ⟨S2048x512, .f32⟩
  | .hbm, ⟨12, _⟩ => ⟨S2048x32768, .f32⟩
  | .hbm, ⟨13, _⟩ => ⟨S_, .f32⟩
  | .hbm, ⟨14, _⟩ => ⟨S2048x32768, .f32⟩
  | .hbm, ⟨15, _⟩ => ⟨S2048x32768, .f32⟩
  | .hbm, ⟨16, _⟩ => ⟨S2048x512, .f32⟩
  | .hbm, ⟨17, _⟩ => ⟨S2048x32768, .f32⟩
  | .hbm, ⟨18, _⟩ => ⟨S_, .f32⟩
  | .hbm, ⟨19, _⟩ => ⟨S2048x32768, .f32⟩
  | .hbm, ⟨20, _⟩ => ⟨S2048x32768, .f32⟩
  | .hbm, ⟨21, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.IdealValues.lean ====
/-
What the kernel's buffers hold, as plain functions of the devices' shares.

A layer takes the activations `X` (one 64-row block per device) to the next: the gathered array `gathered X` is the
32 blocks one under another; a device's partial product is `relu (gathered · win) · wout` computed 256 rows at a time;
block `b` of the next activations is the sum of all devices' partials of block `b`, added up in ring order.
-/
module

public import proofs.«01_k».proof.Proof.Gen.KernelIdeal
public import proofs.«01_k».proof.Proof.Gen.KernelIdeal.Skeleton

@[expose] public section

noncomputable section

namespace Cert.KernelIdealProof

open Cert.KernelIdeal Cert.KernelIdeal.Gen
open Idealize.ShloMosaic

variable {F : FTy → Type} [FloatOps F]

/-- The device `k` places before `c` on the ring. -/
def back (c : Dev nD) (k : ℕ) : Dev nD := ⟨(c.val + 31 * k) % 32, Nat.mod_lt _ (by decide)⟩
/-- The device after `c`. -/
def nxt (c : Dev nD) : Dev nD := ⟨(c.val + 1) % 32, Nat.mod_lt _ (by decide)⟩
/-- The device before `c`. -/
abbrev prv (c : Dev nD) : Dev nD := back c 1

theorem dev_lt (c : Dev nD) : c.val < 32 := c.isLt
theorem back_val (c : Dev nD) (k : ℕ) : (back c k).val = (c.val + 31 * k) % 32 := rfl
theorem nxt_val (c : Dev nD) : (nxt c).val = (c.val + 1) % 32 := rfl
theorem back_zero (c : Dev nD) : back c 0 = c := Fin.ext (by have := dev_lt c; rw [back_val]; omega)
theorem back_nxt (c : Dev nD) (k : ℕ) : back (nxt c) (k + 1) = back c k := Fin.ext (by rw [back_val, back_val, nxt_val]; omega)
theorem back_back (c : Dev nD) (j k : ℕ) : back (back c j) k = back c (j + k) := Fin.ext (by rw [back_val, back_val, back_val]; omega)
theorem prv_nxt (c : Dev nD) : prv (nxt c) = c := (back_nxt c 0).trans (back_zero c)
theorem nxt_prv (c : Dev nD) : nxt (prv c) = c := Fin.ext (by have := dev_lt c; rw [nxt_val, back_val]; omega)
theorem back_31 (c : Dev nD) : back c 31 = nxt c := Fin.ext (by rw [back_val, nxt_val]; omega)

/-- The index at row `r`, column `q` of a 2048×512 array (each taken round its range, so that it is total). -/
def ix (r q : ℕ) : S2048x512.Idx := fun a => ⟨(![r % 2048, q % 512] : Fin 2 → ℕ) a, by
  revert a; intro a; fin_cases a
  · exact Nat.mod_lt _ (by decide)
  · exact Nat.mod_lt _ (by decide)⟩
/-- The index at row `r`, column `q` of a 64×512 block. -/
def ix64 (r q : ℕ) : S64x512.Idx := fun a => ⟨(![r % 64, q % 512] : Fin 2 → ℕ) a, by
  revert a; intro a; fin_cases a
  · exact Nat.mod_lt _ (by decide)
  · exact Nat.mod_lt _ (by decide)⟩
/-- The index at row `r`, column `q` of a 256×512 block. -/
def ix256 (r q : ℕ) : S256x512.Idx := fun a => ⟨(![r % 256, q % 512] : Fin 2 → ℕ) a, by
  revert a; intro a; fin_cases a
  · exact Nat.mod_lt _ (by decide)
  · exact Nat.mod_lt _ (by decide)⟩

/-- 64-row block `k` of a 2048×512 array. -/
def row64 (g : FVec F S2048x512 .f32) (k : ℕ) : FVec F S64x512 .f32 := fun j => g (ix (64 * k + (j 0).val) (j 1).val)
/-- 256-row block `k`. -/
def row256 (g : FVec F S2048x512 .f32) (k : ℕ) : FVec F S256x512 .f32 := fun j => g (ix (256 * k + (j 0).val) (j 1).val)
/-- The array whose 64-row block `k` is `B k`. -/
def glue64 (B : ℕ → FVec F S64x512 .f32) : FVec F S2048x512 .f32 := fun i => B ((i 0).val / 64) (ix64 (i 0).val (i 1).val)
/-- The array whose 256-row block `k` is `B k`. -/
def glue256 (B : ℕ → FVec F S256x512 .f32) : FVec F S2048x512 .f32 := fun i => B ((i 0).val / 256) (ix256 (i 0).val (i 1).val)

theorem ix_eta (i : S2048x512.Idx) : ix (i 0).val (i 1).val = i := funext fun a => Fin.ext (by
  fin_cases a
  · exact Nat.mod_eq_of_lt (i 0).isLt
  · exact Nat.mod_eq_of_lt (i 1).isLt)
theorem ix64_eta (i : S64x512.Idx) : ix64 (i 0).val (i 1).val = i := funext fun a => Fin.ext (by
  fin_cases a
  · exact Nat.mod_eq_of_lt (i 0).isLt
  · exact Nat.mod_eq_of_lt (i 1).isLt)
theorem ix256_eta (i : S256x512.Idx) : ix256 (i 0).val (i 1).val = i := funext fun a => Fin.ext (by
  fin_cases a
  · exact Nat.mod_eq_of_lt (i 0).isLt
  · exact Nat.mod_eq_of_lt (i 1).isLt)

theorem row64_glue64 (B : ℕ → FVec F S64x512 .f32) (k : ℕ) (hk : k < 32) : row64 (glue64 B) k = B k := by
  funext j
  have h0 : (j 0).val < 64 := (j 0).isLt
  show B ((64 * k + (j 0).val) % 2048 / 64) (ix64 ((64 * k + (j 0).val) % 2048) ((j 1).val % 512)) = B k j
  have e1 : (64 * k + (j 0).val) % 2048 / 64 = k := by omega
  have e2 : ix64 ((64 * k + (j 0).val) % 2048) ((j 1).val % 512) = j := by
    refine Eq.trans ?_ (ix64_eta j)
    refine funext fun a => Fin.ext ?_
    fin_cases a
    · show (64 * k + (j 0).val) % 2048 % 64 = (j 0).val % 64
      omega
    · show (j 1).val % 512 % 512 = (j 1).val % 512
      omega
  rw [e1, e2]

/-- One device's product of a 256-row block: `relu (x · win) · wout`. -/
def mlp (w : FVec F S512x1024 .f32) (v : FVec F S1024x512 .f32) (x : FVec F S256x512 .f32) : FVec F S256x512 .f32 := k0_pay8 x w v

/-- The gathered activations. -/
def gathered (X : Dev nD → FVec F S64x512 .f32) : FVec F S2048x512 .f32 := glue64 fun k => X ⟨k % 32, Nat.mod_lt _ (by decide)⟩
/-- A device's partial product of the whole array. -/
def partialOf (w : FVec F S512x1024 .f32) (v : FVec F S1024x512 .f32) (G : FVec F S2048x512 .f32) : FVec F S2048x512 .f32 :=
  glue256 fun b => mlp w v (row256 G b)
/-- The ring sum: on device `d` after `s` hops. -/
def ringSum (P : Dev nD → FVec F S2048x512 .f32) : ℕ → Dev nD → FVec F S64x512 .f32
  | 0, d => row64 (P d) (back d 1).val
  | s + 1, d => addf (ringSum P s (prv d)) (row64 (P d) (back d (s + 2)).val)

/-- The devices' shares of the arguments. -/
structure Inp (F : FTy → Type) where
  x : Dev nD → FVec F S64x512 .f32
  win : ℕ → Dev nD → FVec F S512x1024 .f32
  wout : ℕ → Dev nD → FVec F S1024x512 .f32

/-- Device `d`'s partial product at layer `l`, from the activations. -/
def partials (I : Inp F) (l : ℕ) (X : Dev nD → FVec F S64x512 .f32) (d : Dev nD) : FVec F S2048x512 .f32 :=
  partialOf (I.win l d) (I.wout l d) (gathered X)

/-- The activations before layer `l`. -/
def acts (I : Inp F) : ℕ → Dev nD → FVec F S64x512 .f32
  | 0 => I.x
  | l + 1 => ringSum (partials I l (acts I l)) 31

/-- The gathered array of layer `l`. -/
def GX (I : Inp F) (l : ℕ) : FVec F S2048x512 .f32 := gathered (acts I l)
/-- The partial array of layer `l` on device `d`. -/
def GP (I : Inp F) (l : ℕ) (d : Dev nD) : FVec F S2048x512 .f32 := partials I l (acts I l) d
/-- The ring sum of layer `l` on device `d` after `s` hops. -/
def RS (I : Inp F) (l s : ℕ) (d : Dev nD) : FVec F S64x512 .f32 := ringSum (partials I l (acts I l)) s d
/-- The communication buffer of device `d` at layer `l`: block `s` holds the sum after `s` hops. -/
def GC (I : Inp F) (l : ℕ) (d : Dev nD) : FVec F S2048x512 .f32 := glue64 fun s => RS I l s d
/-- What lands in it: block `s + 1` is the sum of the device before after `s` hops. -/
def GR (I : Inp F) (l : ℕ) (d : Dev nD) : FVec F S2048x512 .f32 := glue64 fun s => RS I l (s - 1) (prv d)

theorem RS_zero (I : Inp F) (l : ℕ) (d : Dev nD) : RS I l 0 d = row64 (GP I l d) (back d 1).val := rfl
theorem RS_succ (I : Inp F) (l s : ℕ) (d : Dev nD) : RS I l (s + 1) d = addf (RS I l s (prv d)) (row64 (GP I l d) (back d (s + 2)).val) := rfl
theorem acts_zero (I : Inp F) : acts I 0 = I.x := rfl
theorem acts_succ (I : Inp F) (l : ℕ) (d : Dev nD) : acts I (l + 1) d = RS I l 31 d := rfl

theorem row64_GX (I : Inp F) (l : ℕ) (b : Dev nD) : row64 (GX I l) b.val = acts I l b := by
  have h := dev_lt b
  unfold GX gathered
  rw [row64_glue64 _ _ h]
  exact congrArg (acts I l) (Fin.ext (Nat.mod_eq_of_lt h))
theorem row64_GC (I : Inp F) (l : ℕ) (d : Dev nD) (s : ℕ) (hs : s < 32) : row64 (GC I l d) s = RS I l s d := row64_glue64 _ _ hs
theorem row64_GR (I : Inp F) (l : ℕ) (d : Dev nD) (s : ℕ) (hs : s + 1 < 32) : row64 (GR I l d) (s + 1) = RS I l s (prv d) := row64_glue64 _ _ hs

/-! ### The printed payloads are these -/

theorem pay7_eq (x : FVec F S256x512 .f32) (w : FVec F S512x1024 .f32) (v : FVec F S1024x512 .f32) :
    k0_pay7 (k0_pay5 x w) (k0_pay6 v) = mlp w v x := rfl

end Cert.KernelIdealProof

end
-- ==== Proof.IdealProto.lean ====
/-
The protocol between the devices.

The kernel makes 186 hops round the ring, numbered `t`: phase `t / 31` is 2·layer for a layer's gather and
2·layer + 1 for its sum, hop `t % 31` of that phase. At hop `t` every device copies one 64-row block to the next device,
onto a send semaphore of its own and a receive semaphore of the next one's. The same semaphore pair serves hop `t + 62`,
so hop `t` is round `t / 62` of its pair.

A block may be copied only onto a buffer its owner has given away. Each device gives the 31 blocks it will receive in
phase `p + 1` — a bundle — away at the start of phase `p`, and the bundle rides round the ring on phase `p`'s messages:
message `h` carries the bundle of the device it started from, so that after 31 hops each device holds the bundle of the
device after it. The bundle of phase 0 is handed over with the entry signal.
-/
module

public import proofs.«01_k».proof.Proof.IdealValues
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Unit
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ### Semaphores -/

abbrev barS : Sem sig := (SemArray.scalar (sig.barrier 0 rfl) : Sems sig S_).sem
/-- The kernel's own 128 DMA semaphores, in the pool's order: gather send, gather receive, sum send, sum receive. -/
def osem (k : Fin 128) : SemLoc sig := .dma ⟨8 + k.val, by have := k.isLt; show 8 + k.val < 136; omega⟩
/-- A device's cells: its barrier semaphore and those. -/
def csem : Option (Fin 128) → SemLoc sig
  | none => .reg barS
  | some k => osem k
def cell (c : Dev nD) (o : Option (Fin 128)) : GSem nD τ sig := ((c : Thread nD τ), csem o)

/-- Hop `t`'s send semaphore, -/
def kS (t : ℕ) : Fin 128 := ⟨64 * (t % 62 / 31) + t % 31, by omega⟩
/-- and its receive semaphore. -/
def kR (t : ℕ) : Fin 128 := ⟨64 * (t % 62 / 31) + t % 31 + 32, by omega⟩
abbrev cS (c : Dev nD) (t : ℕ) : GSem nD τ sig := cell c (some (kS t))
abbrev cR (c : Dev nD) (t : ℕ) : GSem nD τ sig := cell c (some (kR t))
abbrev cB (c : Dev nD) : GSem nD τ sig := cell c none

/-! ### Blocks of the three buffers -/

/-- The 64-row block `k` of a 2048×512 buffer. -/
def rows (k : ℕ) : Finset S2048x512.Idx := Finset.univ.filter fun i => (i 0).val / 64 = k

/-- Block `k` of device `c`'s gather buffer, held whole at `f`, -/
def XB (c : Dev nD) (k : ℕ) (f : FVec F S2048x512 .f32) : sProp 𝕄 := ((c : Thread nD τ).loc cc0_scratch0) ↦[rows k]{fullShare} f
/-- of its communication buffer. -/
def CB (c : Dev nD) (k : ℕ) (f : FVec F S2048x512 .f32) : sProp 𝕄 := ((c : Thread nD τ).loc cc0_scratch2) ↦[rows k]{fullShare} f

instance XB_storable (c : Dev nD) (k : ℕ) (f) : BI.Storable (upEmb : UEmb _ 𝕄) (XB (F := F) c k f) := by unfold XB; infer_instance
instance CB_storable (c : Dev nD) (k : ℕ) (f) : BI.Storable (upEmb : UEmb _ 𝕄) (CB (F := F) c k f) := by unfold CB; infer_instance

/-- The bytes a hop moves, in the semaphores' units. -/
def N : ℕ := (Memref.whole cc0_stg0_0 : Memref sig .tc .vmem S64x512 .f32).view.dmaCredit
theorem N_pos : 0 < N := View.dmaCredit_pos _ (by decide)

/-! ### Bundles and messages -/

/-- What hop `t`'s sender needs of its receiver `e`: the block it lands in, and that `e` has begun the round. -/
def tgt (e : Dev nD) (t : ℕ) : sProp 𝕄 :=
  iprop((∃ f, if t / 31 % 2 = 0 then XB e (back e (t % 31 + 1)).val f else CB e (t % 31 + 1) f) ∗ reached ER (cR e t) (t / 62))
/-- The bundle of phase `p`; there is none after the last phase. -/
def bun (e : Dev nD) (p : ℕ) : sProp 𝕄 := if p < 6 then bigSep (Finset.Ico (31 * p) (31 * p + 31)) fun t => tgt e t else iprop(emp)

/-- What comes back to the sender `d` of hop `t`. -/
def sendPay (I : Inp F) (d : Dev nD) (t : ℕ) : sProp 𝕄 :=
  if t / 31 % 2 = 0 then XB d (back d (t % 31)).val (GX I (t / 62)) else CB d (t % 31) (GC I (t / 62) d)
/-- What the receiver `e` of hop `t` gets. -/
def recvPay (I : Inp F) (e : Dev nD) (t : ℕ) : sProp 𝕄 :=
  iprop((if t / 31 % 2 = 0 then XB e (back e (t % 31 + 1)).val (GX I (t / 62)) else CB e (t % 31 + 1) (GR I (t / 62) e))
    ∗ bun (back e (t % 31 + 1)) (t / 31 + 1))

instance tgt_storable (e : Dev nD) (t : ℕ) : BI.Storable (upEmb : UEmb _ 𝕄) (tgt (F := F) e t) := by
  unfold tgt; split <;> infer_instance
instance bun_storable (e : Dev nD) (p : ℕ) : BI.Storable (upEmb : UEmb _ 𝕄) (bun (F := F) e p) := by
  unfold bun; split <;> infer_instance
instance sendPay_storable (I : Inp F) (e : Dev nD) (t : ℕ) : BI.Storable (upEmb : UEmb _ 𝕄) (sendPay I e t) := by
  unfold sendPay; split <;> infer_instance
instance recvPay_storable (I : Inp F) (e : Dev nD) (t : ℕ) : BI.Storable (upEmb : UEmb _ 𝕄) (recvPay I e t) := by
  unfold recvPay; split <;> infer_instance

/-! ### The schedule -/

/-- The rounds in use: the barrier once, a hop's semaphores three times (the last of each 32 is not used). -/
def live (r : ℕ) : SemLoc sig → Prop
  | .reg _ => r = 0
  | .dma q => 8 ≤ q.val ∧ (q.val - 8) % 32 < 31 ∧ r < 3
instance live_dec (r : ℕ) (s : SemLoc sig) : Decidable (live r s) := by cases s <;> unfold live <;> infer_instance
/-- The hop that round `r` of own semaphore number `k` serves. -/
def hopOf (k r : ℕ) : ℕ := 62 * r + 31 * (k / 64) + k % 32
def amt : SemLoc sig → ℕ
  | .reg _ => 1
  | .dma _ => N
def pay (I : Inp F) (c : Dev nD) (r : ℕ) : SemLoc sig → sProp 𝕄
  | .reg _ => bun (nxt c) 0
  | .dma q => if (q.val - 8) % 64 < 32 then sendPay I c (hopOf (q.val - 8) r) else recvPay I c (hopOf (q.val - 8) r)

def Rd (I : Inp F) : Rounds.Schedule (GSem nD τ sig) Unit 𝕄 where
  duties g r := if g.1.2 = .tc ∧ live r g.2 then {()} else ∅
  unitless _ := False
  amount g _ _ := amt g.2
  payload g r _ := pay I g.1.1 r g.2
  amount_pos g _ _ _ := by
    rcases g with ⟨_, _ | _⟩
    · exact Nat.one_pos
    · exact N_pos

instance Rd_storable (I : Inp F) (g : GSem nD τ sig) (r : ℕ) (d : Unit) : BI.Storable (upEmb : UEmb _ 𝕄) ((Rd I).payload g r d) := by
  rcases g with ⟨⟨c, _⟩, _ | q⟩
  · exact bun_storable (nxt c) 0
  · show BI.Storable upEmb (if (q.val - 8) % 64 < 32 then sendPay I c (hopOf (q.val - 8) r) else recvPay I c (hopOf (q.val - 8) r))
    split <;> infer_instance

variable (I : Inp F)

theorem duties_bar (c : Dev nD) : (Rd I).duties (cB c) 0 = {()} := by
  show (if ((c : Thread nD τ).2 = .tc ∧ (0 : ℕ) = 0) then ({()} : Finset Unit) else ∅) = {()}
  exact if_pos ⟨rfl, rfl⟩
theorem duties_used (c : Dev nD) (k : Fin 128) (r : ℕ) (hk : k.val % 32 < 31) (hr : r < 3) : (Rd I).duties (cell c (some k)) r = {()} :=
  if_pos ⟨rfl, by show 8 ≤ 8 + k.val ∧ (8 + k.val - 8) % 32 < 31 ∧ r < 3; omega⟩
theorem duties_S (c : Dev nD) (t : ℕ) (ht : t < 186) : (Rd I).duties (cS c t) (t / 62) = {()} :=
  duties_used I c _ _ (by show (64 * (t % 62 / 31) + t % 31) % 32 < 31; omega) (by omega)
theorem duties_R (c : Dev nD) (t : ℕ) (ht : t < 186) : (Rd I).duties (cR c t) (t / 62) = {()} :=
  duties_used I c _ _ (by show (64 * (t % 62 / 31) + t % 31 + 32) % 32 < 31; omega) (by omega)
theorem amount_bar (c : Dev nD) (r : ℕ) (d : Unit) : (Rd I).amount (cB c) r d = 1 := rfl
theorem amount_own (c : Dev nD) (k : Fin 128) (r : ℕ) (d : Unit) : (Rd I).amount (cell c (some k)) r d = N := rfl
theorem payload_bar (c : Dev nD) (d : Unit) : (Rd I).payload (cB c) 0 d = bun (nxt c) 0 := rfl
theorem payload_S (c : Dev nD) (t : ℕ) (d : Unit) : (Rd I).payload (cS c t) (t / 62) d = sendPay I c t := by
  show (if (8 + (64 * (t % 62 / 31) + t % 31) - 8) % 64 < 32 then sendPay I c (hopOf (8 + (64 * (t % 62 / 31) + t % 31) - 8) (t / 62)) else _) = _
  have h : hopOf (8 + (64 * (t % 62 / 31) + t % 31) - 8) (t / 62) = t := by unfold hopOf; omega
  rw [if_pos (by omega), h]
theorem payload_R (c : Dev nD) (t : ℕ) (d : Unit) : (Rd I).payload (cR c t) (t / 62) d = recvPay I c t := by
  show (if (8 + (64 * (t % 62 / 31) + t % 31 + 32) - 8) % 64 < 32 then _ else recvPay I c (hopOf (8 + (64 * (t % 62 / 31) + t % 31 + 32) - 8) (t / 62))) = _
  have h : hopOf (8 + (64 * (t % 62 / 31) + t % 31 + 32) - 8) (t / 62) = t := by unfold hopOf; omega
  rw [if_neg (by omega), h]

theorem expect_one (g : GSem nD τ sig) (r : ℕ) (h : (Rd I).duties g r = {()}) : (Rd I).expect g r = amt g.2 := by
  unfold Schedule.expect Schedule.amountOf; rw [h, Finset.sum_singleton]; rfl
theorem rest_one (g : GSem nD τ sig) (r : ℕ) (h : (Rd I).duties g r = {()}) :
    bigSep ((Rd I).duties g r \ ∅) (fun d => (Rd I).payload g r d) = (Rd I).payload g r () := by
  rw [h, Finset.sdiff_empty, bigSep_singleton]

/-- The round own semaphore number `k` is at before hop `t`. -/
def rnd (k t : ℕ) : ℕ := if k % 32 < 31 then (t + 61 - (31 * (k / 64) + k % 32)) / 62 else 0

theorem rnd_zero (k : ℕ) (hk : k < 128) : rnd k 0 = 0 := by unfold rnd; split <;> omega
theorem rnd_S (t : ℕ) (ht : t < 186) : rnd (kS t).val t = t / 62 := by
  show rnd (64 * (t % 62 / 31) + t % 31) t = _
  unfold rnd; rw [if_pos (by omega)]; omega
theorem rnd_R (t : ℕ) (ht : t < 186) : rnd (kR t).val t = t / 62 := by
  show rnd (64 * (t % 62 / 31) + t % 31 + 32) t = _
  unfold rnd; rw [if_pos (by omega)]; omega
theorem rnd_S_succ (t : ℕ) (ht : t < 186) : rnd (kS t).val (t + 1) = t / 62 + 1 := by
  show rnd (64 * (t % 62 / 31) + t % 31) (t + 1) = _
  unfold rnd; rw [if_pos (by omega)]; omega
theorem rnd_R_succ (t : ℕ) (ht : t < 186) : rnd (kR t).val (t + 1) = t / 62 + 1 := by
  show rnd (64 * (t % 62 / 31) + t % 31 + 32) (t + 1) = _
  unfold rnd; rw [if_pos (by omega)]; omega
theorem place_ne (k t : ℕ) (hk : k < 128) (hm : k % 32 < 31) (h1 : k ≠ 64 * (t % 62 / 31) + t % 31)
    (h2 : k ≠ 64 * (t % 62 / 31) + t % 31 + 32) : 31 * (k / 64) + k % 32 ≠ t % 62 := fun h => by
  have e1 : t % 62 / 31 = k / 64 := by omega
  have e2 : t % 31 = k % 32 := by omega
  rw [e1, e2] at h1 h2
  omega
theorem div_same (t i : ℕ) (hi : i < 62) (h : i ≠ t % 62) : (t + 1 + 61 - i) / 62 = (t + 61 - i) / 62 := by omega
theorem rnd_other (k : Fin 128) (t : ℕ) (hS : k ≠ kS t) (hR : k ≠ kR t) : rnd k.val (t + 1) = rnd k.val t := by
  have hk := k.isLt
  have h1 : k.val ≠ 64 * (t % 62 / 31) + t % 31 := fun h => hS (Fin.ext h)
  have h2 : k.val ≠ 64 * (t % 62 / 31) + t % 31 + 32 := fun h => hR (Fin.ext h)
  unfold rnd
  by_cases hm : k.val % 32 < 31
  · rw [if_pos hm, if_pos hm]
    exact div_same t _ (by omega) (place_ne k.val t hk hm h1 h2)
  · rw [if_neg hm, if_neg hm]
theorem kS_ne_kR (t : ℕ) : kS t ≠ kR t := fun h => by
  have := congrArg Fin.val h
  have : 64 * (t % 62 / 31) + t % 31 = 64 * (t % 62 / 31) + t % 31 + 32 := this
  omega
theorem duties_end (c : Dev nD) (k : Fin 128) : ∀ r, rnd k.val 186 ≤ r → (Rd I).duties (cell c (some k)) r = ∅ := fun r hr =>
  if_neg fun h => by
    have h2 : 8 ≤ 8 + k.val ∧ (8 + k.val - 8) % 32 < 31 ∧ r < 3 := h.2
    have hk := k.isLt
    unfold rnd at hr
    rw [if_pos (by omega)] at hr
    omega
theorem duties_bar_end (c : Dev nD) : ∀ r, 1 ≤ r → (Rd I).duties (cB c) r = ∅ := fun r hr =>
  if_neg fun h => by
    have h2 : r = 0 := h.2
    omega

end Cert.KernelIdealProof

end
-- ==== Proof.IdealHop.lean ====
/-
One hop of the ring: a device's standing between two hops, what it owes, why it may wait, and the hop itself — the
copy to the next device, the wait for the copy to have left, the wait for the copy from the device before to have landed.
-/
module

public import proofs.«01_k».proof.Proof.IdealProto
public import Idealize.SL.BI.BigOpNat
public import Mathlib.Algebra.BigOperators.Intervals

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ### What is owed, and the levels -/

/-- What device `d` owes before hop `t`: the credit of each later hop at the next device, under the hop's own index. -/
def owed (d : Dev nD) (t : ℕ) : CellTallies nD τ sig ℕ := ∑ u ∈ Finset.Ico t 186, tallyAt (cR (nxt d) u) (u + 2) N
/-- At launch it owes the entry signal as well. -/
def owed₀ (d : Dev nD) : CellTallies nD τ sig ℕ := owed d 0 + tallyAt (cB (prv d)) 1 1

def L (g : GSem nD τ sig) : Finset ℕ := if g.1.2 = .tc then Finset.range 188 else ∅
/-- The level of an index is the index: 0 for the staging and send credits, 1 for the entry signal, then the hops in order. -/
def lv (_ : GSem nD τ sig) (ι : ℕ) : ℕ := ι

theorem owed_step (d : Dev nD) (t : ℕ) (ht : t < 186) : owed d t = owed d (t + 1) + tallyAt (cR (nxt d) t) (t + 2) N := by
  unfold owed; rw [Finset.sum_eq_sum_Ico_succ_bot ht, add_comm]
theorem owed_end (d : Dev nD) : owed d 186 = 0 := by unfold owed; rw [Finset.Ico_self, Finset.sum_empty]
theorem owed_apply (d : Dev nD) (t : ℕ) (g : GSem nD τ sig) (u : ℕ) :
    owed d t g u = ∑ s ∈ Finset.Ico t 186, if g = cR (nxt d) s ∧ u = s + 2 then N else 0 := by
  unfold owed
  rw [Finset.sum_apply, Finsupp.finset_sum_apply]
  exact Finset.sum_congr rfl fun s _ => tallyAt_apply ..
theorem owed_pos {d : Dev nD} {t : ℕ} {g : GSem nD τ sig} {u : ℕ} (h : 0 < owed d t g u) :
    ∃ s, t ≤ s ∧ s < 186 ∧ g = cR (nxt d) s ∧ u = s + 2 := by
  rw [owed_apply] at h
  by_contra hn
  refine absurd h (by
    rw [Finset.sum_eq_zero]
    · exact Nat.lt_irrefl 0
    · intro s hs
      have := Finset.mem_Ico.mp hs
      exact if_neg fun hc => hn ⟨s, this.1, this.2, hc.1, hc.2⟩)

theorem may_wait (c : Dev nD) (sm : SemLoc sig) (ι : ℕ) (O : CellTallies nD τ sig ℕ) (hι : ι < 188)
    (h : ∀ g u, 0 < O g u → g.1.2 = .tc ∧ u < 188 ∧ ι < u) : (levAts L lv : sProp 𝕄) ⊢ MayWait (c : Thread nD τ) sm ι O :=
  MayOwe.of_cut (L := L) (lev := lv) ι
    (fun p hp => by rw [Finset.mem_singleton.mp hp]; unfold L; rw [if_pos rfl]; exact Finset.mem_range.mpr hι)
    (fun g u hg => by unfold L; rw [if_pos (h g u hg).1]; exact Finset.mem_range.mpr (h g u hg).2.1)
    (fun p hp => by rw [Finset.mem_singleton.mp hp]; exact le_refl _)
    (fun g u hg => (h g u hg).2.2)
theorem may_wait_owed (c : Dev nD) (sm : SemLoc sig) (ι t : ℕ) (hι : ι < t + 2) (hι' : ι < 188) :
    (levAts L lv : sProp 𝕄) ⊢ MayWait (c : Thread nD τ) sm ι (owed c t) :=
  may_wait c sm ι _ hι' fun g u hg => by
    obtain ⟨s, h1, h2, h3, h4⟩ := owed_pos hg
    subst h3
    exact ⟨rfl, by omega, by omega⟩

/-! ### A device between two hops -/

variable (I : Inp F)

/-- Every cell's invariant, under the names `K`. -/
def invs (K : Dev nD × Option (Fin 128) → ℕ) : sProp 𝕄 :=
  bigSep Finset.univ fun ck : Dev nD × Option (Fin 128) => cellInv ER (Rd I) (K ck) (cell ck.1 ck.2)
instance invs_persistent (K : Dev nD × Option (Fin 128) → ℕ) : BI.Persistent (invs I K) := by unfold invs; infer_instance
theorem inv_at (K : Dev nD × Option (Fin 128) → ℕ) (c : Dev nD) (o : Option (Fin 128)) :
    invs I K ⊢ cellInv ER (Rd I) (K (c, o)) (cell c o) := bigSep_elim (Finset.mem_univ (c, o))

/-- A position at the start of a round, with the mark that it is reached. -/
def posn (g : GSem nD τ sig) (r : ℕ) : sProp 𝕄 := iprop(atPos ER g r ∅ 0 ∗ reached ER g r)
/-- The device's positions before hop `t`. -/
def pos (d : Dev nD) (t : ℕ) : sProp 𝕄 := bigSep Finset.univ fun k : Fin 128 => posn (cell d (some k)) (rnd k.val t)
/-- What the device spends on hop `t`. -/
def kit (d : Dev nD) (t : ℕ) : sProp 𝕄 :=
  iprop(dutyTok ER (cS d t) (t / 62) () ∗ dutyTok ER (cR (nxt d) t) (t / 62) () ∗ cred (tallyAt (cR d t) (t + 2) N))
def kits (d : Dev nD) (t : ℕ) : sProp 𝕄 := bigSep (Finset.Ico t 186) fun u => kit d u
/-- The device's standing before hop `t`. -/
def core (d : Dev nD) (t : ℕ) : sProp 𝕄 := iprop(pos d t ∗ kits d t ∗ ∃ W, owes (d : Thread nD τ) (owed d t) W)
/-- What never changes: the invariants and the levels. -/
def know (K : Dev nD × Option (Fin 128) → ℕ) : sProp 𝕄 := iprop(invs I K ∗ levAts L lv)
instance know_persistent (K : Dev nD × Option (Fin 128) → ℕ) : BI.Persistent (know I K) := by unfold know; infer_instance

theorem posn_sep (g : GSem nD τ sig) (r : ℕ) : (posn g r : sProp 𝕄) = iprop(atPos ER g r ∅ 0 ∗ reached ER g r) := rfl

/-- One member of a conjunction set apart. -/
theorem take_out {J : Type} [DecidableEq J] {S : Finset J} {i : J} (h : i ∈ S) (Φ : J → sProp 𝕄) :
    bigSep S Φ = iprop(Φ i ∗ bigSep (S.erase i) Φ) := BI.bigSep_erase h

/-- Hop `t`'s two positions taken out, to be put back one round on. -/
theorem pos_step (d : Dev nD) (t : ℕ) (ht : t < 186) :
    (pos d t : sProp 𝕄) ⊢ iprop(posn (cS d t) (t / 62) ∗ posn (cR d t) (t / 62)
      ∗ ((posn (cS d t) (t / 62 + 1) ∗ posn (cR d t) (t / 62 + 1)) -∗ pos d (t + 1))) := by
  have hne : kR t ∈ Finset.univ.erase (kS t) := Finset.mem_erase.mpr ⟨(kS_ne_kR t).symm, Finset.mem_univ _⟩
  have e0 : (pos d t : sProp 𝕄) = iprop(posn (cS d t) (t / 62) ∗ posn (cR d t) (t / 62)
      ∗ bigSep ((Finset.univ.erase (kS t)).erase (kR t)) fun k : Fin 128 => posn (cell d (some k)) (rnd k.val t)) := by
    unfold pos
    rw [bigSep_univ_at _ (kS t), take_out hne, rnd_S t ht, rnd_R t ht]
  have e1 : (pos d (t + 1) : sProp 𝕄) = iprop(posn (cS d t) (t / 62 + 1) ∗ posn (cR d t) (t / 62 + 1)
      ∗ bigSep ((Finset.univ.erase (kS t)).erase (kR t)) fun k : Fin 128 => posn (cell d (some k)) (rnd k.val t)) := by
    unfold pos
    rw [bigSep_univ_at _ (kS t), take_out hne, rnd_S_succ t ht, rnd_R_succ t ht]
    congr 2
    exact BI.bigSep_congr fun k hk => by
      have h1 := Finset.mem_erase.mp hk
      have h2 := Finset.mem_erase.mp h1.2
      rw [rnd_other k t h2.1 h1.1]
  rw [e0, e1]
  iintro ⟨HS, HR, Hrest⟩
  isplitl [HS]; · iexact HS
  isplitl [HR]; · iexact HR
  iintro ⟨HS, HR⟩
  isplitl [HS]; · iexact HS
  isplitl [HR]; · iexact HR
  iexact Hrest

theorem kits_step (d : Dev nD) (t : ℕ) (ht : t < 186) : (kits d t : sProp 𝕄) = iprop(kit d t ∗ kits d (t + 1)) :=
  bigSep_Ico_succ_bot ht _

/-! ### The hop -/

/-- Own DMA semaphore number `k`. -/
def dsem (k : Fin 128) : DmaSem sig := ⟨8 + k.val, by have := k.isLt; show 8 + k.val < 136; omega⟩

theorem mem_duties_S (d : Dev nD) (t : ℕ) (ht : t < 186) : () ∈ (Rd I).duties ((d : Thread nD τ), SemLoc.dma (dsem (kS t))) (t / 62) := by
  show () ∈ (Rd I).duties (cS d t) (t / 62)
  rw [duties_S I d t ht]; exact Finset.mem_singleton_self _
theorem mem_duties_R (d : Dev nD) (t : ℕ) (ht : t < 186) : () ∈ (Rd I).duties ((d : Thread nD τ), SemLoc.dma (dsem (kR t))) (t / 62) := by
  show () ∈ (Rd I).duties (cR d t) (t / 62)
  rw [duties_R I d t ht]; exact Finset.mem_singleton_self _
theorem rest_S (d : Dev nD) (t : ℕ) (ht : t < 186) : bigSep ((Rd I).duties ((d : Thread nD τ), SemLoc.dma (dsem (kS t))) (t / 62) \ ∅)
    (fun x => (Rd I).payload ((d : Thread nD τ), SemLoc.dma (dsem (kS t))) (t / 62) x) = sendPay I d t :=
  (rest_one I (cS d t) (t / 62) (duties_S I d t ht)).trans (payload_S I d t ())
theorem rest_R (d : Dev nD) (t : ℕ) (ht : t < 186) : bigSep ((Rd I).duties ((d : Thread nD τ), SemLoc.dma (dsem (kR t))) (t / 62) \ ∅)
    (fun x => (Rd I).payload ((d : Thread nD τ), SemLoc.dma (dsem (kR t))) (t / 62) x) = recvPay I d t :=
  (rest_one I (cR d t) (t / 62) (duties_R I d t ht)).trans (payload_R I d t ())

set_option maxHeartbeats 800000 in
/-- Hop `t` of device `d`, for any 64-row views: `src` is where `d`'s payload lies, `dst` the block the receiver gave. -/
theorem wp_hop (K : Dev nD × Option (Fin 128) → ℕ) (d n : Dev nD) (t : ℕ) (ht : t < 186) (hn : n = nxt d)
    {src dst : Memref sig .tc .vmem S64x512 .f32} {a1 a2 b1 b2 : Memref sig .tc .vmem S64x512 .f32}
    (fs : Buf (Elt F) (src.view.loc (d : Thread nD τ)))
    (hsrc : sendPay I d t = (src.view.loc (d : Thread nD τ) ↦[src.view.set]{fullShare} fs : sProp 𝕄))
    (hdst : (tgt (nxt d) t : sProp 𝕄) ⊢ iprop((∃ f, dst.view.loc (nxt d : Thread nD τ) ↦[dst.view.set]{fullShare} f) ∗ reached ER (cR (nxt d) t) (t / 62)))
    (hland : ∀ fd, iprop((dst.view.loc (nxt d : Thread nD τ) ↦[dst.view.set]{fullShare} (dst.view.write (Elt F) fd (src.view.read (Elt F) fs) Finset.univ))
      ∗ bun (back d (t % 31)) (t / 31 + 1)) ⊢ recvPay I (nxt d) t)
    (hN : dst.view.amount (.dma (dsem (kR t))) = N) (hN1 : a2.view.dmaCredit = N) (hN2 : b2.view.dmaCredit = N)
    {sS sS' sR sR' : DmaSem sig} (hS : sS = dsem (kS t)) (hS' : sS' = dsem (kS t)) (hR : sR = dsem (kR t)) (hR' : sR' = dsem (kR t))
    {hsc : (dst : Memref sig (Dev.tc n : Thread nD τ).2.kind .vmem S64x512 .f32).view.ref.isScScratch = false}
    {h1 : src.view.WordExact} {h2 : dst.view.WordExact}
    {h3 : DmaTarget.Typed .vmem (.dma sR) (.remote (Dev.tc n : Thread nD τ) (dst : Memref sig (Dev.tc n : Thread nD τ).2.kind .vmem S64x512 .f32) (.dma sS) hsc)}
    {h4 : a1.view.WordExact} {h5 : a2.view.WordExact} {h6 : b1.view.WordExact} {h7 : b2.view.WordExact}
    {α : Type} {Q : α → sProp 𝕄} {k : PUnit → Prog (TpuEff nD τ sig (Elt F) Λ₀ .tc) α} :
    iprop(know I K ∗ core d t ∗ sendPay I d t ∗ tgt (nxt d) t ∗ bun (back d (t % 31)) (t / 31 + 1))
      ⊢ iprop(((core d (t + 1) ∗ sendPay I d t ∗ recvPay I d t) -∗ wp frame (wpE (defs₀ (F := F)) Variants.none (d : Thread nD τ) none) Set.univ (k ⟨⟩) Q)
          -∗ wp frame (wpE (defs₀ (F := F)) Variants.none (d : Thread nD τ) none) Set.univ
              (.op (.enqueueDma src (.remote (Dev.tc n : Thread nD τ) dst (.dma sS) hsc) (.dma sR) h1 h2 h3) fun _ =>
                .op (.waitDma2 sS' a1 a2 h4 h5) fun _ => .op (.waitDma2 sR' b1 b2 h6 h7) k) Q) := by
  subst hn hS hS' hR hR'
  unfold know core
  rw [kits_step d t ht]
  unfold kit
  iintro ⟨⟨#HI, #Hlev⟩, ⟨Hpos, ⟨⟨HtS, HtR, Hcr⟩, Hkits⟩, ⟨%W, HO⟩⟩, Hsrc, Htgt, Hbun⟩ Hk
  ihave Hp := (pos_step d t ht) $$ Hpos
  rw [posn_sep (cS d t) (t / 62), posn_sep (cR d t) (t / 62)]
  icases Hp with ⟨⟨HaS, #HrS⟩, ⟨HaR, #HrR⟩, Hback⟩
  ihave Hd := hdst $$ Htgt
  icases Hd with ⟨⟨%fd, Hdst⟩, #HrN⟩
  ihave Hs := (Entails.of_eq hsrc) $$ Hsrc
  rw [owed_step d t ht]
  iapply (Rounds.wp_send_pointsTo_with Variants.none ER (Rd I) (d : Thread nD τ) none (c' := (nxt d : Thread nD τ)) (κ₁ := K (d, some (kS t))) (κ₂ := K (nxt d, some (kR t)))
    (src := src) (dst := dst)
    (r₁ := t / 62) (r₂ := t / 62) (d₁ := ()) (d₂ := ()) (fs := fs) (fd := fd) (F := bun (back d (t % 31)) (t / 31 + 1))
    (mem_duties_S I d t ht) (mem_duties_R I (nxt d) t ht)
    (t + 2) 0 N hN (amount_own I d (kS t) (t / 62) ()) (amount_own I (nxt d) (kR t) (t / 62) ()) (owed d (t + 1)) rfl (W := W)
    (Entails.of_eq ((payload_S I d t ()).trans hsrc).symm)
    ((hland fd).trans (Entails.of_eq (payload_R I (nxt d) t ()).symm))) $$ [Hs Hdst Hbun HO HtS HtR]
  · isplitr; · iapply (inv_at I K d (some (kS t))); iexact HI
    isplitr; · iapply (inv_at I K (nxt d) (some (kR t))); iexact HI
    isplitl [Hs]; · iexact Hs
    isplitl [Hdst Hbun]
    · isplitl [Hdst] <;> iassumption
    isplitl [HO]; · iexact HO
    isplitl [HtS]; · iexact HtS
    isplitr; · iexact HrS
    isplitl [HtR]; · iexact HtR
    iexact HrN
  iintro ⟨HcS, HO⟩
  iapply (Rounds.wp_wait_rest_token Variants.none ER (Rd I) (d : Thread nD τ) none (κ := K (d, some (kS t)))
      (wpE_waitDma2_eq Variants.none (d : Thread nD τ) none Set.univ) (Set.mem_univ _) 0 (O := owed d (t + 1)) (W := W) (R := t / 62) (m := 0) (T := ∅)
      (by rw [Nat.zero_add, hN1]; exact (expect_one I (cS d t) (t / 62) (duties_S I d t ht)).symm)) $$ [HcS HO HaS]
  · isplitr; · iapply (inv_at I K d (some (kS t))); iexact HI
    isplitl [HcS]; · rw [hN1]; iexact HcS
    isplitl [HO]; · iexact HO
    isplitr; · iapply (may_wait_owed d _ 0 (t + 1) (by omega) (by omega)); iexact Hlev
    iexact HaS
  iintro ⟨HO, HaS, #HrS', Hpay⟩
  ihave Hsrc := (Entails.of_eq (rest_S I d t ht)) $$ Hpay
  iapply (Rounds.wp_wait_rest_token Variants.none ER (Rd I) (d : Thread nD τ) none (κ := K (d, some (kR t)))
      (wpE_waitDma2_eq Variants.none (d : Thread nD τ) none Set.univ) (Set.mem_univ _) (t + 2) (O := owed d (t + 1))
      (W := insert (SemLoc.dma (dsem (kS t)), 0) W) (R := t / 62) (m := 0) (T := ∅)
      (by rw [Nat.zero_add, hN2]; exact (expect_one I (cR d t) (t / 62) (duties_R I d t ht)).symm)) $$ [Hcr HO HaR]
  · isplitr; · iapply (inv_at I K d (some (kR t))); iexact HI
    isplitl [Hcr]; · rw [hN2]; iexact Hcr
    isplitl [HO]; · iexact HO
    isplitr; · iapply (may_wait_owed d _ (t + 2) (t + 1) (by omega) (by omega)); iexact Hlev
    iexact HaR
  iintro ⟨HO, HaR, #HrR', Hpay⟩
  ihave Hrcv := (Entails.of_eq (rest_R I d t ht)) $$ Hpay
  iapply Hk
  isplitl [HO HaS HaR Hback Hkits]
  · isplitl [HaS HaR Hback]
    · iapply Hback
      rw [posn_sep, posn_sep]
      isplitl [HaS]
      · isplitl [HaS]; · iexact HaS
        iexact HrS'
      · isplitl [HaR]; · iexact HaR
        iexact HrR'
    isplitl [Hkits]; · iexact Hkits
    iexists _; iexact HO
  isplitl [Hsrc] <;> iassumption

end Cert.KernelIdealProof

end
-- ==== Proof.IdealBlocks.lean ====
/-
The blocks of the three 2048×512 buffers as the kernel's loads, stores and copies see them: which elements a printed
rectangle holds, what it reads, what a write leaves; and the load and store rules on blocks.
-/
module

public import proofs.«01_k».proof.Proof.IdealHop

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-- The 256-row block `b` of a 2048×512 buffer. -/
def rows256 (b : ℕ) : Finset S2048x512.Idx := Finset.univ.filter fun i => (i 0).val / 256 = b

theorem mem_rows {k : ℕ} {i : S2048x512.Idx} : i ∈ rows k ↔ (i 0).val / 64 = k := by unfold rows; rw [Finset.mem_filter]; exact ⟨fun h => h.2, fun h => ⟨Finset.mem_univ _, h⟩⟩
theorem mem_rows256 {k : ℕ} {i : S2048x512.Idx} : i ∈ rows256 k ↔ (i 0).val / 256 = k := by unfold rows256; rw [Finset.mem_filter]; exact ⟨fun h => h.2, fun h => ⟨Finset.mem_univ _, h⟩⟩

/-- An index of a unit-stride rectangle, placed in the shape. -/
theorem unit_emb_val {s : Shape} (off size : Fin s.rank → ℕ) (inb) (j : (Rect.unit off size inb).shape.Idx) (a : Fin s.rank) :
    ((Rect.unit off size inb).emb j a : ℕ) = off a + j a := by
  rw [Rect.emb_apply]
  exact congrArg (off a + ·) (Nat.one_mul _)

section Rects

variable {off : Fin 2 → ℕ} {k : ℕ}

theorem rect64_set (ho : off = ![64 * k, 0]) (inb : ∀ a, off a + S64x512.size a ≤ S2048x512.size a) :
    (Rect.unit (s := S2048x512) off S64x512.size inb).set = rows k := by
  subst ho
  ext i
  rw [Rect.mem_set_unit, mem_rows]
  have h1 : (i 1).val < 512 := (i 1).isLt
  constructor
  · intro h
    have h0 : 64 * k ≤ (i 0).val ∧ (i 0).val < 64 * k + 64 := h 0
    omega
  · intro h a
    fin_cases a
    · show 64 * k ≤ (i 0).val ∧ (i 0).val < 64 * k + 64
      omega
    · show 0 ≤ (i 1).val ∧ (i 1).val < 0 + 512
      omega
theorem rect256_set (ho : off = ![256 * k, 0]) (inb : ∀ a, off a + S256x512.size a ≤ S2048x512.size a) :
    (Rect.unit (s := S2048x512) off S256x512.size inb).set = rows256 k := by
  subst ho
  ext i
  rw [Rect.mem_set_unit, mem_rows256]
  have h1 : (i 1).val < 512 := (i 1).isLt
  constructor
  · intro h
    have h0 : 256 * k ≤ (i 0).val ∧ (i 0).val < 256 * k + 256 := h 0
    omega
  · intro h a
    fin_cases a
    · show 256 * k ≤ (i 0).val ∧ (i 0).val < 256 * k + 256
      omega
    · show 0 ≤ (i 1).val ∧ (i 1).val < 0 + 512
      omega

theorem rect64_emb (ho : off = ![64 * k, 0]) (inb : ∀ a, off a + S64x512.size a ≤ S2048x512.size a) (j : S64x512.Idx) :
    (Rect.unit (s := S2048x512) off S64x512.size inb).emb j = ix (64 * k + (j 0).val) (j 1).val := by
  subst ho
  have hb : 64 * k + 64 ≤ 2048 := inb 0
  have h0 : (j 0).val < 64 := (j 0).isLt
  have h1 : (j 1).val < 512 := (j 1).isLt
  refine funext fun a => Fin.ext ((unit_emb_val _ _ _ j a).trans ?_)
  fin_cases a
  · show 64 * k + (j 0).val = (64 * k + (j 0).val) % 2048
    omega
  · show 0 + (j 1).val = (j 1).val % 512
    omega
theorem rect256_emb (ho : off = ![256 * k, 0]) (inb : ∀ a, off a + S256x512.size a ≤ S2048x512.size a) (j : S256x512.Idx) :
    (Rect.unit (s := S2048x512) off S256x512.size inb).emb j = ix (256 * k + (j 0).val) (j 1).val := by
  subst ho
  have hb : 256 * k + 256 ≤ 2048 := inb 0
  have h0 : (j 0).val < 256 := (j 0).isLt
  have h1 : (j 1).val < 512 := (j 1).isLt
  refine funext fun a => Fin.ext ((unit_emb_val _ _ _ j a).trans ?_)
  fin_cases a
  · show 256 * k + (j 0).val = (256 * k + (j 0).val) % 2048
    omega
  · show 0 + (j 1).val = (j 1).val % 512
    omega

/-- An element of block `k`, as the rectangle's element that it is. -/
theorem rect64_at (ho : off = ![64 * k, 0]) (inb : ∀ a, off a + S64x512.size a ≤ S2048x512.size a) (i : S2048x512.Idx) (hi : i ∈ rows k) :
    i = (Rect.unit (s := S2048x512) off S64x512.size inb).emb (ix64 (i 0).val (i 1).val) := by
  have hi := mem_rows.mp hi
  have h0 : (i 0).val < 2048 := (i 0).isLt
  have h1 : (i 1).val < 512 := (i 1).isLt
  rw [rect64_emb ho inb]
  refine ((ix_eta i).symm.trans ?_)
  refine funext fun a => Fin.ext ?_
  fin_cases a
  · show (i 0).val % 2048 = (64 * k + (i 0).val % 64) % 2048
    omega
  · show (i 1).val % 512 = (i 1).val % 512 % 512
    omega
theorem rect256_at (ho : off = ![256 * k, 0]) (inb : ∀ a, off a + S256x512.size a ≤ S2048x512.size a) (i : S2048x512.Idx) (hi : i ∈ rows256 k) :
    i = (Rect.unit (s := S2048x512) off S256x512.size inb).emb (ix256 (i 0).val (i 1).val) := by
  have hi := mem_rows256.mp hi
  have h0 : (i 0).val < 2048 := (i 0).isLt
  have h1 : (i 1).val < 512 := (i 1).isLt
  rw [rect256_emb ho inb]
  refine ((ix_eta i).symm.trans ?_)
  refine funext fun a => Fin.ext ?_
  fin_cases a
  · show (i 0).val % 2048 = (256 * k + (i 0).val % 256) % 2048
    omega
  · show (i 1).val % 512 = (i 1).val % 512 % 512
    omega

end Rects

/-! ### The three buffers' printed slices -/

abbrev xM : Memref sig .tc .vmem S2048x512 .f32 := Memref.whole cc0_scratch0
abbrev pM : Memref sig .tc .vmem S2048x512 .f32 := Memref.whole cc0_scratch1
abbrev cM : Memref sig .tc .vmem S2048x512 .f32 := Memref.whole cc0_scratch2

section Slices

variable {off : Fin 2 → ℕ} {k : ℕ} (ho : off = ![64 * k, 0]) (inb : ∀ a, off a + S64x512.size a ≤ S2048x512.size a)
variable {off' : Fin 2 → ℕ} (ho' : off' = ![256 * k, 0]) (inb' : ∀ a, off' a + S256x512.size a ≤ S2048x512.size a)

include ho in
theorem x_set : ((View.whole cc0_scratch0).slice (Rect.unit (s := S2048x512) off S64x512.size inb)).set = rows k :=
  (View.set_slice_whole cc0_scratch0 _).trans (rect64_set ho inb)
include ho in
theorem c_set : ((View.whole cc0_scratch2).slice (Rect.unit (s := S2048x512) off S64x512.size inb)).set = rows k :=
  (View.set_slice_whole cc0_scratch2 _).trans (rect64_set ho inb)
include ho' in
theorem p_set : ((View.whole cc0_scratch1).slice (Rect.unit (s := S2048x512) off' S256x512.size inb')).set = rows256 k :=
  (View.set_slice_whole cc0_scratch1 _).trans (rect256_set ho' inb')

include ho in
theorem x_read (f : FVec F S2048x512 .f32) : ((View.whole cc0_scratch0).slice (Rect.unit (s := S2048x512) off S64x512.size inb)).read (Elt F) f = row64 f k :=
  funext fun j => congrArg f (rect64_emb ho inb j)
include ho in
theorem c_read (f : FVec F S2048x512 .f32) : ((View.whole cc0_scratch2).slice (Rect.unit (s := S2048x512) off S64x512.size inb)).read (Elt F) f = row64 f k :=
  funext fun j => congrArg f (rect64_emb ho inb j)
include ho in
theorem p_read64 (f : FVec F S2048x512 .f32) : ((View.whole cc0_scratch1).slice (Rect.unit (s := S2048x512) off S64x512.size inb)).read (Elt F) f = row64 f k :=
  funext fun j => congrArg f (rect64_emb ho inb j)
include ho' in
theorem x_read256 (f : FVec F S2048x512 .f32) : ((View.whole cc0_scratch0).slice (Rect.unit (s := S2048x512) off' S256x512.size inb')).read (Elt F) f = row256 f k :=
  funext fun j => congrArg f (rect256_emb ho' inb' j)

include ho in
theorem x_write (f : FVec F S2048x512 .f32) (B : ℕ → FVec F S64x512 .f32) (i : S2048x512.Idx) (hi : i ∈ rows k) :
    ((View.whole cc0_scratch0).slice (Rect.unit (s := S2048x512) off S64x512.size inb)).write (Elt F) f (B k) Finset.univ i = glue64 B i := by
  have hk : (i 0).val / 64 = k := mem_rows.mp hi
  have e : ((View.whole cc0_scratch0).slice (Rect.unit (s := S2048x512) off S64x512.size inb)).emb (ix64 (i 0).val (i 1).val) = i := (rect64_at ho inb i hi).symm
  refine (congrArg _ e.symm).trans ((View.write_emb_of_mem (Val := Elt F) (v := (View.whole cc0_scratch0).slice (Rect.unit (s := S2048x512) off S64x512.size inb)) f (B k) (Finset.mem_univ (ix64 (i 0).val (i 1).val))).trans ?_)
  show B k _ = B ((i 0).val / 64) _
  rw [hk]
include ho in
theorem c_write (f : FVec F S2048x512 .f32) (B : ℕ → FVec F S64x512 .f32) (i : S2048x512.Idx) (hi : i ∈ rows k) :
    ((View.whole cc0_scratch2).slice (Rect.unit (s := S2048x512) off S64x512.size inb)).write (Elt F) f (B k) Finset.univ i = glue64 B i := by
  have hk : (i 0).val / 64 = k := mem_rows.mp hi
  have e : ((View.whole cc0_scratch2).slice (Rect.unit (s := S2048x512) off S64x512.size inb)).emb (ix64 (i 0).val (i 1).val) = i := (rect64_at ho inb i hi).symm
  refine (congrArg _ e.symm).trans ((View.write_emb_of_mem (Val := Elt F) (v := (View.whole cc0_scratch2).slice (Rect.unit (s := S2048x512) off S64x512.size inb)) f (B k) (Finset.mem_univ (ix64 (i 0).val (i 1).val))).trans ?_)
  show B k _ = B ((i 0).val / 64) _
  rw [hk]
include ho' in
theorem p_write (f : FVec F S2048x512 .f32) (B : ℕ → FVec F S256x512 .f32) (i : S2048x512.Idx) (hi : i ∈ rows256 k) :
    ((View.whole cc0_scratch1).slice (Rect.unit (s := S2048x512) off' S256x512.size inb')).write (Elt F) f (B k) Finset.univ i = glue256 B i := by
  have hk : (i 0).val / 256 = k := mem_rows256.mp hi
  have e : ((View.whole cc0_scratch1).slice (Rect.unit (s := S2048x512) off' S256x512.size inb')).emb (ix256 (i 0).val (i 1).val) = i := (rect256_at ho' inb' i hi).symm
  refine (congrArg _ e.symm).trans ((View.write_emb_of_mem (Val := Elt F) (v := (View.whole cc0_scratch1).slice (Rect.unit (s := S2048x512) off' S256x512.size inb')) f (B k) (Finset.mem_univ (ix256 (i 0).val (i 1).val))).trans ?_)
  show B k _ = B ((i 0).val / 256) _
  rw [hk]

end Slices

/-! ### The load and store rules on blocks -/

/-- A program of device `c` run to the postcondition `Q`. -/
abbrev run (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- The whole gather buffer, -/
def XW (c : Dev nD) (f : FVec F S2048x512 .f32) : sProp 𝕄 := ((c : Thread nD τ).loc cc0_scratch0) ↦{fullShare} f
/-- the whole partial buffer, -/
def PW (c : Dev nD) (f : FVec F S2048x512 .f32) : sProp 𝕄 := ((c : Thread nD τ).loc cc0_scratch1) ↦{fullShare} f
/-- the whole communication buffer; -/
def CW (c : Dev nD) (f : FVec F S2048x512 .f32) : sProp 𝕄 := ((c : Thread nD τ).loc cc0_scratch2) ↦{fullShare} f
/-- 256-row block `b` of the partial buffer. -/
def PB (c : Dev nD) (b : ℕ) (f : FVec F S2048x512 .f32) : sProp 𝕄 := ((c : Thread nD τ).loc cc0_scratch1) ↦[rows256 b]{fullShare} f

section Rules

variable {off : Fin 2 → ℕ} {k : ℕ} (c : Dev nD) (f : FVec F S2048x512 .f32)

theorem ld_x (ho : off = ![64 * k, 0]) {α : Type} {Q : α → sProp 𝕄} {inb : ∀ a, off a + S64x512.size a ≤ S2048x512.size a} {hl}
    {kk : Vec F S64x512 .f32 → Prog (TpuEff nD τ sig (Elt F) Λ₀ .tc) α} :
    XB c k f ⊢ iprop((XB c k f -∗ run c (kk (row64 f k)) Q)
      -∗ run c (.op (.load xM (Rect.unit (s := S2048x512) off S64x512.size inb).toLoadRect hl) kk) Q) := by
  have h := wp_load_rect (Γ := .empty) (defs := defs₀ (F := F)) Variants.none (c : Thread nD τ) none Set.univ (m := xM) (r := Rect.unit (s := S2048x512) off S64x512.size inb)
    (S := rows k) (q := fullShare) (f := f) (hl := hl) (k := kk) (Q := Q) (Finset.subset_of_eq (x_set ho inb))
  rw [show (xM.access (Rect.unit (s := S2048x512) off S64x512.size inb)).read (Elt F) f = row64 f k from x_read ho inb f] at h
  exact h
theorem ld_c (ho : off = ![64 * k, 0]) {α : Type} {Q : α → sProp 𝕄} {inb : ∀ a, off a + S64x512.size a ≤ S2048x512.size a} {hl}
    {kk : Vec F S64x512 .f32 → Prog (TpuEff nD τ sig (Elt F) Λ₀ .tc) α} :
    CB c k f ⊢ iprop((CB c k f -∗ run c (kk (row64 f k)) Q)
      -∗ run c (.op (.load cM (Rect.unit (s := S2048x512) off S64x512.size inb).toLoadRect hl) kk) Q) := by
  have h := wp_load_rect (Γ := .empty) (defs := defs₀ (F := F)) Variants.none (c : Thread nD τ) none Set.univ (m := cM) (r := Rect.unit (s := S2048x512) off S64x512.size inb)
    (S := rows k) (q := fullShare) (f := f) (hl := hl) (k := kk) (Q := Q) (Finset.subset_of_eq (c_set ho inb))
  rw [show (cM.access (Rect.unit (s := S2048x512) off S64x512.size inb)).read (Elt F) f = row64 f k from c_read ho inb f] at h
  exact h
theorem ld_p (ho : off = ![64 * k, 0]) {α : Type} {Q : α → sProp 𝕄} {inb : ∀ a, off a + S64x512.size a ≤ S2048x512.size a} {hl}
    {kk : Vec F S64x512 .f32 → Prog (TpuEff nD τ sig (Elt F) Λ₀ .tc) α} :
    PW c f ⊢ iprop((PW c f -∗ run c (kk (row64 f k)) Q)
      -∗ run c (.op (.load pM (Rect.unit (s := S2048x512) off S64x512.size inb).toLoadRect hl) kk) Q) := by
  have h := wp_load_rect (Γ := .empty) (defs := defs₀ (F := F)) Variants.none (c : Thread nD τ) none Set.univ (m := pM) (r := Rect.unit (s := S2048x512) off S64x512.size inb)
    (S := Finset.univ) (q := fullShare) (f := f) (hl := hl) (k := kk) (Q := Q) (Finset.subset_univ _)
  rw [show (pM.access (Rect.unit (s := S2048x512) off S64x512.size inb)).read (Elt F) f = row64 f k from p_read64 ho inb f] at h
  exact h
theorem ld_x256 (ho : off = ![256 * k, 0]) {α : Type} {Q : α → sProp 𝕄} {inb : ∀ a, off a + S256x512.size a ≤ S2048x512.size a} {hl}
    {kk : Vec F S256x512 .f32 → Prog (TpuEff nD τ sig (Elt F) Λ₀ .tc) α} :
    XW c f ⊢ iprop((XW c f -∗ run c (kk (row256 f k)) Q)
      -∗ run c (.op (.load xM (Rect.unit (s := S2048x512) off S256x512.size inb).toLoadRect hl) kk) Q) := by
  have h := wp_load_rect (Γ := .empty) (defs := defs₀ (F := F)) Variants.none (c : Thread nD τ) none Set.univ (m := xM) (r := Rect.unit (s := S2048x512) off S256x512.size inb)
    (S := Finset.univ) (q := fullShare) (f := f) (hl := hl) (k := kk) (Q := Q) (Finset.subset_univ _)
  rw [show (xM.access (Rect.unit (s := S2048x512) off S256x512.size inb)).read (Elt F) f = row256 f k from x_read256 ho inb f] at h
  exact h
/-- The load of what a store is about to overwrite: its value is not used. -/
theorem ld_p256 (ho : off = ![256 * k, 0]) {α : Type} {Q : α → sProp 𝕄} {inb : ∀ a, off a + S256x512.size a ≤ S2048x512.size a} {hl}
    {p : Prog (TpuEff nD τ sig (Elt F) Λ₀ .tc) α} :
    PB c k f ⊢ iprop((PB c k f -∗ run c p Q)
      -∗ run c (.op (.load pM (Rect.unit (s := S2048x512) off S256x512.size inb).toLoadRect hl) fun _ => p) Q) :=
  wp_load_rect (Γ := .empty) (defs := defs₀ (F := F)) Variants.none (c : Thread nD τ) none Set.univ (m := pM) (r := Rect.unit (s := S2048x512) off S256x512.size inb)
    (S := rows256 k) (q := fullShare) (f := f) (hl := hl) (k := fun _ => p) (Q := Q) (Finset.subset_of_eq (p_set ho inb))

/-- A block's contents matter on the block only. -/
theorem XB_congr {g : FVec F S2048x512 .f32} (h : ∀ i ∈ rows k, f i = g i) : (XB c k f : sProp 𝕄) = XB c k g := pointsTo_congr h
theorem CB_congr {g : FVec F S2048x512 .f32} (h : ∀ i ∈ rows k, f i = g i) : (CB c k f : sProp 𝕄) = CB c k g := pointsTo_congr h
theorem PB_congr {g : FVec F S2048x512 .f32} (h : ∀ i ∈ rows256 k, f i = g i) : (PB c k f : sProp 𝕄) = PB c k g := pointsTo_congr h

theorem st_x (ho : off = ![64 * k, 0]) {α : Type} {Q : α → sProp 𝕄} {inb : ∀ a, off a + S64x512.size a ≤ S2048x512.size a} (B : ℕ → FVec F S64x512 .f32)
    {w : FVec F S64x512 .f32} (hw : w = B k) {hs hm} {kk : PUnit → Prog (TpuEff nD τ sig (Elt F) Λ₀ .tc) α} :
    XB c k f ⊢ iprop((XB c k (glue64 B) -∗ run c (kk ⟨⟩) Q)
      -∗ run c (.op (.store xM (Rect.unit (s := S2048x512) off S64x512.size inb) w Finset.univ hs hm) kk) Q) := by
  subst hw
  have h := wp_store (Γ := .empty) (defs := defs₀ (F := F)) Variants.none (c : Thread nD τ) none Set.univ (m := xM) (r := Rect.unit (s := S2048x512) off S64x512.size inb)
    (S := rows k) (f := f) (w := B k) (Mk := Finset.univ) (hx := hs) (hm := hm) (k := kk) (Q := Q) (Finset.subset_of_eq (x_set ho inb))
  rw [← XB_congr c _ (x_write ho inb f B)]
  exact h
theorem st_c (ho : off = ![64 * k, 0]) {α : Type} {Q : α → sProp 𝕄} {inb : ∀ a, off a + S64x512.size a ≤ S2048x512.size a} (B : ℕ → FVec F S64x512 .f32)
    {w : FVec F S64x512 .f32} (hw : w = B k) {hs hm} {kk : PUnit → Prog (TpuEff nD τ sig (Elt F) Λ₀ .tc) α} :
    CB c k f ⊢ iprop((CB c k (glue64 B) -∗ run c (kk ⟨⟩) Q)
      -∗ run c (.op (.store cM (Rect.unit (s := S2048x512) off S64x512.size inb) w Finset.univ hs hm) kk) Q) := by
  subst hw
  have h := wp_store (Γ := .empty) (defs := defs₀ (F := F)) Variants.none (c : Thread nD τ) none Set.univ (m := cM) (r := Rect.unit (s := S2048x512) off S64x512.size inb)
    (S := rows k) (f := f) (w := B k) (Mk := Finset.univ) (hx := hs) (hm := hm) (k := kk) (Q := Q) (Finset.subset_of_eq (c_set ho inb))
  rw [← CB_congr c _ (c_write ho inb f B)]
  exact h
theorem st_p (ho : off = ![256 * k, 0]) {α : Type} {Q : α → sProp 𝕄} {inb : ∀ a, off a + S256x512.size a ≤ S2048x512.size a} (B : ℕ → FVec F S256x512 .f32)
    {w : FVec F S256x512 .f32} (hw : w = B k) {hs hm} {kk : PUnit → Prog (TpuEff nD τ sig (Elt F) Λ₀ .tc) α} :
    PB c k f ⊢ iprop((PB c k (glue256 B) -∗ run c (kk ⟨⟩) Q)
      -∗ run c (.op (.store pM (Rect.unit (s := S2048x512) off S256x512.size inb) w Finset.univ hs hm) kk) Q) := by
  subst hw
  have h := wp_store (Γ := .empty) (defs := defs₀ (F := F)) Variants.none (c : Thread nD τ) none Set.univ (m := pM) (r := Rect.unit (s := S2048x512) off S256x512.size inb)
    (S := rows256 k) (f := f) (w := B k) (Mk := Finset.univ) (hx := hs) (hm := hm) (k := kk) (Q := Q) (Finset.subset_of_eq (p_set ho inb))
  rw [← PB_congr c _ (p_write ho inb f B)]
  exact h

end Rules

/-! ### A buffer is its blocks -/

theorem rows_cover : (Finset.range 32).biUnion rows = Finset.univ := by
  ext i
  have h0 : (i 0).val < 2048 := (i 0).isLt
  rw [Finset.mem_biUnion]
  exact ⟨fun _ => Finset.mem_univ _, fun _ => ⟨(i 0).val / 64, Finset.mem_range.mpr (by omega), mem_rows.mpr rfl⟩⟩
theorem rows256_cover : (Finset.range 8).biUnion rows256 = Finset.univ := by
  ext i
  have h0 : (i 0).val < 2048 := (i 0).isLt
  rw [Finset.mem_biUnion]
  exact ⟨fun _ => Finset.mem_univ _, fun _ => ⟨(i 0).val / 256, Finset.mem_range.mpr (by omega), mem_rows256.mpr rfl⟩⟩
theorem rows_disj (j k : ℕ) (h : j ≠ k) : Disjoint (rows j) (rows k) :=
  Finset.disjoint_left.mpr fun i hj hk => h ((mem_rows.mp hj).symm.trans (mem_rows.mp hk))
theorem rows256_disj (j k : ℕ) (h : j ≠ k) : Disjoint (rows256 j) (rows256 k) :=
  Finset.disjoint_left.mpr fun i hj hk => h ((mem_rows256.mp hj).symm.trans (mem_rows256.mp hk))

theorem XW_blocks (c : Dev nD) (f : FVec F S2048x512 .f32) : (XW c f : sProp 𝕄) = bigSep (Finset.range 32) fun k => XB c k f := by
  unfold XW XB
  rw [← rows_cover]
  exact pointsTo_biUnion _ _ fun j _ k _ h => rows_disj j k h
theorem CW_blocks (c : Dev nD) (f : FVec F S2048x512 .f32) : (CW c f : sProp 𝕄) = bigSep (Finset.range 32) fun k => CB c k f := by
  unfold CW CB
  rw [← rows_cover]
  exact pointsTo_biUnion _ _ fun j _ k _ h => rows_disj j k h
theorem PW_blocks (c : Dev nD) (f : FVec F S2048x512 .f32) : (PW c f : sProp 𝕄) = bigSep (Finset.range 8) fun k => PB c k f := by
  unfold PW PB
  rw [← rows256_cover]
  exact pointsTo_biUnion _ _ fun j _ k _ h => rows256_disj j k h

/-- The blocks taken round the ring from `d` backwards are the blocks. -/
theorem round_ring (d : Dev nD) (Φ : ℕ → sProp 𝕄) : bigSep (Finset.range 32) (fun j => Φ (back d j).val) = bigSep (Finset.range 32) Φ := by
  have hinj : Set.InjOn (fun j => (back d j).val) (Finset.range 32 : Finset ℕ) := fun i hi j hj h => by
    have hi := Finset.mem_range.mp (Finset.mem_coe.mp hi)
    have hj := Finset.mem_range.mp (Finset.mem_coe.mp hj)
    have h : (d.val + 31 * i) % 32 = (d.val + 31 * j) % 32 := h
    omega
  have him : (Finset.range 32).image (fun j => (back d j).val) = Finset.range 32 := by
    ext b
    rw [Finset.mem_image, Finset.mem_range]
    constructor
    · rintro ⟨j, -, rfl⟩; exact dev_lt _
    · intro hb
      have := dev_lt d
      refine ⟨(d.val + 32 - b) % 32, Finset.mem_range.mpr (Nat.mod_lt _ (by decide)), ?_⟩
      show (d.val + 31 * ((d.val + 32 - b) % 32)) % 32 = b
      omega
  rw [← bigSep_image_of_injOn hinj Φ, him]

end Cert.KernelIdealProof

end
-- ==== Proof.IdealTrips.lean ====
/-
One trip of the all-gather loop and one trip of the reduce-scatter loop, at a symbolic device, layer and trip.
-/
module

public import proofs.«01_k».proof.Proof.IdealBlocks
public import Idealize.SL.BI.BigOpNat
public import Idealize.ShloMosaic.Lib.Pipeline.Value

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-- The element of one of the kernel's four arrays of 32 semaphores, as a trip names it. -/
theorem own_sem {base : ℕ} {hb : base + S32.numel ≤ 136} {off : Fin 1 → ℕ} {k : ℕ} (ho : off = ![k]) {inb : ∀ a, off a + S1.size a ≤ S32.size a}
    (q : Fin 128) (hq : base + k = 8 + q.val) :
    (((SemArray.consecutive base S32 hb : DmaSems sig S32).slice (Rect.unit (s := S32) off S1.size inb)).squeeze S_ squeezes_S1_S_).sem = dsem q := by
  apply Fin.ext
  show base + (S32.rowMajor _).val = 8 + q.val
  rw [← hq, Shape.rowMajor_val_one]
  subst ho
  refine congrArg (base + ·) ?_
  rw [unit_emb_val]
  have : ∀ j : S1.Idx, (j 0).val = 0 := fun j => Nat.lt_one_iff.mp (j 0).isLt
  exact congrArg (k + ·) (this _)

theorem glue64_row64 (g : FVec F S2048x512 .f32) : glue64 (row64 g) = g := funext fun i => by
  have e : ix (64 * ((i 0).val / 64) + (i 0).val % 64) ((i 1).val % 512) = i := by
    have h1 : (i 1).val < 512 := (i 1).isLt
    rw [Nat.div_add_mod, Nat.mod_eq_of_lt h1]; exact ix_eta i
  exact congrArg g e

/-! ### All-gather -/

section Gather

variable (I : Inp F) (K : Dev nD × Option (Fin 128) → ℕ)

/-- Before trip `k` of layer `l`'s all-gather: blocks `d, d-1, …, d-k` have arrived, the hops `k, …, 30` are still to be made. -/
def AG (d : Dev nD) (l k : ℕ) : sProp 𝕄 :=
  iprop(know I K ∗ core d (62 * l + k) ∗ bigSep (Finset.range (k + 1)) (fun j => XB d (back d j).val (GX I l))
    ∗ bigSep (Finset.Ico (62 * l + k) (62 * l + 31)) (fun t => tgt (nxt d) t) ∗ bun (back d k) (2 * l + 1))

theorem ag_send (d : Dev nD) (l k : ℕ) (hk : k < 31) : (sendPay I d (62 * l + k) : sProp 𝕄) = XB d (back d k).val (GX I l) := by
  unfold sendPay
  rw [show (62 * l + k) / 31 % 2 = 0 by omega, show (62 * l + k) % 31 = k by omega, show (62 * l + k) / 62 = l by omega]
  exact if_pos rfl
theorem ag_recv (d : Dev nD) (l k : ℕ) (hk : k < 31) :
    (recvPay I d (62 * l + k) : sProp 𝕄) = iprop(XB d (back d (k + 1)).val (GX I l) ∗ bun (back d (k + 1)) (2 * l + 1)) := by
  unfold recvPay
  rw [show (62 * l + k) / 31 % 2 = 0 by omega, show (62 * l + k) % 31 = k by omega, show (62 * l + k) / 62 = l by omega, show (62 * l + k) / 31 = 2 * l by omega]
  rfl
theorem ag_tgt (d : Dev nD) (l k : ℕ) (hk : k < 31) :
    (tgt (nxt d) (62 * l + k) : sProp 𝕄) = iprop((∃ f, XB (nxt d) (back d k).val f) ∗ reached ER (cR (nxt d) (62 * l + k)) ((62 * l + k) / 62)) := by
  unfold tgt
  rw [show (62 * l + k) / 31 % 2 = 0 by omega, show (62 * l + k) % 31 = k by omega, back_nxt]
  rfl

variable {off1 : Fin 1 → ℕ} {off : Fin 2 → ℕ}

theorem ag_trip (d n : Dev nD) (l k : ℕ) (hl : l < 3) (hk : k < 31) (hn : n.val = (d.val + 1) % 32)
    (ho : off = ![64 * (((d.val + 32) - k) % 32), 0]) {inb : ∀ a, off a + S64x512.size a ≤ S2048x512.size a}
    {sS sS' sR sR' : DmaSem sig} (hS : sS = dsem (kS k)) (hS' : sS' = dsem (kS k)) (hR : sR = dsem (kR k)) (hR' : sR' = dsem (kR k))
    {hsc} {h1} {h2} {h3} {h4} {h5} {h6} {h7}
    {α : Type} {Q : α → sProp 𝕄} {kk : PUnit → Prog (TpuEff nD τ sig (Elt F) Λ₀ .tc) α} :
    AG I K d l k ⊢ iprop((AG I K d l (k + 1) -∗ run d (kk ⟨⟩) Q)
      -∗ run d (.op (.enqueueDma (xM.slice (Rect.unit (s := S2048x512) off S64x512.size inb) (fun _ => rfl))
            (.remote (Dev.tc n : Thread nD τ) (xM.slice (Rect.unit (s := S2048x512) off S64x512.size inb) (fun _ => rfl)) (.dma sS) hsc) (.dma sR) h1 h2 h3) fun _ =>
          .op (.waitDma2 sS' (xM.slice (Rect.unit (s := S2048x512) off S64x512.size inb) (fun _ => rfl)) (xM.slice (Rect.unit (s := S2048x512) off S64x512.size inb) (fun _ => rfl)) h4 h5) fun _ =>
          .op (.waitDma2 sR' (xM.slice (Rect.unit (s := S2048x512) off S64x512.size inb) (fun _ => rfl)) (xM.slice (Rect.unit (s := S2048x512) off S64x512.size inb) (fun _ => rfl)) h6 h7) kk) Q) := by
  have hn' : n = nxt d := Fin.ext hn
  have ho' : off = ![64 * (back d k).val, 0] := by
    rw [ho, back_val]; have := dev_lt d
    rw [show ((d.val + 32) - k) % 32 = (d.val + 31 * k) % 32 by omega]
  have kSe : kS k = kS (62 * l + k) := Fin.ext (by show 64 * (k % 62 / 31) + k % 31 = 64 * ((62 * l + k) % 62 / 31) + (62 * l + k) % 31; omega)
  have kRe : kR k = kR (62 * l + k) := Fin.ext (by show 64 * (k % 62 / 31) + k % 31 + 32 = 64 * ((62 * l + k) % 62 / 31) + (62 * l + k) % 31 + 32; omega)
  rw [kSe] at hS hS'
  rw [kRe] at hR hR'
  have hop := wp_hop I K d n (62 * l + k) (by omega) hn'
    (src := xM.slice (Rect.unit (s := S2048x512) off S64x512.size inb) (fun _ => rfl)) (dst := xM.slice (Rect.unit (s := S2048x512) off S64x512.size inb) (fun _ => rfl))
    (a1 := xM.slice (Rect.unit (s := S2048x512) off S64x512.size inb) (fun _ => rfl)) (a2 := xM.slice (Rect.unit (s := S2048x512) off S64x512.size inb) (fun _ => rfl))
    (b1 := xM.slice (Rect.unit (s := S2048x512) off S64x512.size inb) (fun _ => rfl)) (b2 := xM.slice (Rect.unit (s := S2048x512) off S64x512.size inb) (fun _ => rfl))
    (GX I l)
    (by rw [ag_send I d l k hk]; unfold XB; rw [← x_set ho' inb])
    (by rw [ag_tgt d l k hk]; unfold XB; rw [← x_set ho' inb]; exact Entails.rfl)
    (fun fd => by
      have e := ag_recv I (nxt d) l k hk
      rw [back_nxt] at e
      rw [e, show (62 * l + k) % 31 = k by omega, show (62 * l + k) / 31 + 1 = 2 * l + 1 by omega]
      refine sep_mono ?_ Entails.rfl
      have w : ∀ i ∈ rows (back d k).val, ((View.whole cc0_scratch0).slice (Rect.unit (s := S2048x512) off S64x512.size inb)).write (Elt F) fd
          (((View.whole cc0_scratch0).slice (Rect.unit (s := S2048x512) off S64x512.size inb)).read (Elt F) (GX I l)) Finset.univ i = GX I l i := fun i hi => by
        rw [x_read ho' inb (GX I l)]
        exact (x_write ho' inb fd (row64 (GX I l)) i hi).trans (congrFun (glue64_row64 (GX I l)) i)
      rw [← XB_congr (nxt d) _ w]
      unfold XB
      rw [← x_set ho' inb])
    rfl rfl rfl hS hS' hR hR' (hsc := hsc) (h1 := h1) (h2 := h2) (h3 := h3) (h4 := h4) (h5 := h5) (h6 := h6) (h7 := h7) (k := kk) (Q := Q)
  unfold AG
  rw [bigSep_range_succ k, bigSep_Ico_succ_bot (show 62 * l + k < 62 * l + 31 by omega), bigSep_range_succ (k + 1), bigSep_range_succ k]
  iintro ⟨#HK, Hcore, ⟨Hx, Hxs⟩, ⟨Ht, Hts⟩, Hb⟩ Hk
  iapply hop $$ [Hcore Hx Ht Hb]
  · rw [ag_send I d l k hk, show (62 * l + k) % 31 = k by omega, show (62 * l + k) / 31 + 1 = 2 * l + 1 by omega]
    isplitr; · iexact HK
    isplitl [Hcore]; · iexact Hcore
    isplitl [Hx]; · iexact Hx
    isplitl [Ht]; · iexact Ht
    iexact Hb
  rw [ag_send I d l k hk, ag_recv I d l k hk]
  iintro ⟨Hcore, Hx, Hy, Hb⟩
  iapply Hk
  isplitr; · iexact HK
  isplitl [Hcore]; · iexact Hcore
  isplitl [Hx Hy Hxs]
  · isplitl [Hy]; · iexact Hy
    isplitl [Hx] <;> iassumption
  isplitl [Hts]; · iexact Hts
  iexact Hb

end Gather

/-! ### Reduce-scatter -/

/-- A cast to the shape a value has already. -/
theorem pay_id (v : FVec F S64x512 .f32) : k0_pay18 v = v := shapeCast_self v _

section Scatter

variable (I : Inp F) (K : Dev nD × Option (Fin 128) → ℕ)

/-- Before trip `k` of layer `l`'s reduce-scatter: blocks `0, …, k` of the communication buffer hold the running sums. -/
def SC (d : Dev nD) (l k : ℕ) : sProp 𝕄 :=
  iprop(know I K ∗ core d (62 * l + 31 + k) ∗ bigSep (Finset.range (k + 1)) (fun j => CB d j (GC I l d))
    ∗ bigSep (Finset.Ico (62 * l + 31 + k) (62 * l + 62)) (fun t => tgt (nxt d) t) ∗ bun (back d k) (2 * l + 2) ∗ PW d (GP I l d))

theorem sc_send (d : Dev nD) (l k : ℕ) (hk : k < 31) : (sendPay I d (62 * l + 31 + k) : sProp 𝕄) = CB d k (GC I l d) := by
  unfold sendPay
  rw [show (62 * l + 31 + k) / 31 % 2 = 1 by omega, show (62 * l + 31 + k) % 31 = k by omega, show (62 * l + 31 + k) / 62 = l by omega]
  exact if_neg (by decide)
theorem sc_recv (d : Dev nD) (l k : ℕ) (hk : k < 31) :
    (recvPay I d (62 * l + 31 + k) : sProp 𝕄) = iprop(CB d (k + 1) (GR I l d) ∗ bun (back d (k + 1)) (2 * l + 2)) := by
  unfold recvPay
  rw [show (62 * l + 31 + k) / 31 % 2 = 1 by omega, show (62 * l + 31 + k) % 31 = k by omega, show (62 * l + 31 + k) / 62 = l by omega,
    show (62 * l + 31 + k) / 31 + 1 = 2 * l + 2 by omega]
  rfl
theorem sc_tgt (d : Dev nD) (l k : ℕ) (hk : k < 31) :
    (tgt (nxt d) (62 * l + 31 + k) : sProp 𝕄) = iprop((∃ f, CB (nxt d) (k + 1) f) ∗ reached ER (cR (nxt d) (62 * l + 31 + k)) ((62 * l + 31 + k) / 62)) := by
  unfold tgt
  rw [show (62 * l + 31 + k) / 31 % 2 = 1 by omega, show (62 * l + 31 + k) % 31 = k by omega]
  rfl

variable {off1 : Fin 1 → ℕ} {off offn : Fin 2 → ℕ} {offp : Fin 2 → ℕ}

theorem sc_trip (d n : Dev nD) (l k : ℕ) (hl : l < 3) (hk : k < 31) (hn : n.val = (d.val + 1) % 32)
    (ho : off = ![64 * k, 0]) (hon : offn = ![64 * k + 64, 0]) {offs : Fin 2 → ℕ} (hos : offs = ![64 * k + 64, 0]) (hop : offp = ![64 * (((d.val + 62) - k) % 32), 0])
    {inb : ∀ a, off a + S64x512.size a ≤ S2048x512.size a} {inbn : ∀ a, offn a + S64x512.size a ≤ S2048x512.size a}
    {inbs : ∀ a, offs a + S64x512.size a ≤ S2048x512.size a} {inbp : ∀ a, offp a + S64x512.size a ≤ S2048x512.size a}
    {sS sS' sR sR' : DmaSem sig} (hS : sS = dsem (kS (31 + k))) (hS' : sS' = dsem (kS (31 + k))) (hR : sR = dsem (kR (31 + k))) (hR' : sR' = dsem (kR (31 + k)))
    {hsc} {h1} {h2} {h3} {h4} {h5} {h6} {h7} {l1} {l2} {l3} {s1} {s2}
    {α : Type} {Q : α → sProp 𝕄} {kk : PUnit → Prog (TpuEff nD τ sig (Elt F) Λ₀ .tc) α} :
    SC I K d l k ⊢ iprop((SC I K d l (k + 1) -∗ run d (kk ⟨⟩) Q)
      -∗ run d (.op (.enqueueDma (cM.slice (Rect.unit (s := S2048x512) off S64x512.size inb) (fun _ => rfl))
            (.remote (Dev.tc n : Thread nD τ) (cM.slice (Rect.unit (s := S2048x512) offn S64x512.size inbn) (fun _ => rfl)) (.dma sS) hsc) (.dma sR) h1 h2 h3) fun _ =>
          .op (.waitDma2 sS' (cM.slice (Rect.unit (s := S2048x512) offn S64x512.size inbn) (fun _ => rfl)) (cM.slice (Rect.unit (s := S2048x512) off S64x512.size inb) (fun _ => rfl)) h4 h5) fun _ =>
          .op (.waitDma2 sR' (cM.slice (Rect.unit (s := S2048x512) off S64x512.size inb) (fun _ => rfl)) (cM.slice (Rect.unit (s := S2048x512) offn S64x512.size inbn) (fun _ => rfl)) h6 h7) fun _ =>
          .op (.load cM (Rect.unit (s := S2048x512) offs S64x512.size inbs).toLoadRect l1) fun (a : Vec F S64x512 .f32) =>
          .op (.load pM (Rect.unit (s := S2048x512) offp S64x512.size inbp).toLoadRect l2) fun (b : Vec F S64x512 .f32) =>
          .op (.load cM (Rect.unit (s := S2048x512) offs S64x512.size inbs).toLoadRect l3) fun _ =>
          .op (.store cM (Rect.unit (s := S2048x512) offs S64x512.size inbs) (k0_pay18 (addf a b)) Finset.univ s1 s2) kk) Q) := by
  have hn' : n = nxt d := Fin.ext hn
  have hos' : offs = ![64 * (k + 1), 0] := by rw [hos, Nat.mul_add]
  have hon' : offn = ![64 * (k + 1), 0] := by rw [hon, Nat.mul_add]
  have hop' : offp = ![64 * (back d (k + 2)).val, 0] := by
    rw [hop, back_val]; have := dev_lt d
    rw [show ((d.val + 62) - k) % 32 = (d.val + 31 * (k + 2)) % 32 by omega]
  have kSe : kS (31 + k) = kS (62 * l + 31 + k) := Fin.ext (by show 64 * ((31 + k) % 62 / 31) + (31 + k) % 31 = 64 * ((62 * l + 31 + k) % 62 / 31) + (62 * l + 31 + k) % 31; omega)
  have kRe : kR (31 + k) = kR (62 * l + 31 + k) := Fin.ext (by show 64 * ((31 + k) % 62 / 31) + (31 + k) % 31 + 32 = 64 * ((62 * l + 31 + k) % 62 / 31) + (62 * l + 31 + k) % 31 + 32; omega)
  rw [kSe] at hS hS'
  rw [kRe] at hR hR'
  have hhop := fun (kk' : PUnit → Prog (TpuEff nD τ sig (Elt F) Λ₀ .tc) α) => wp_hop I K d n (62 * l + 31 + k) (by omega) hn'
    (src := cM.slice (Rect.unit (s := S2048x512) off S64x512.size inb) (fun _ => rfl)) (dst := cM.slice (Rect.unit (s := S2048x512) offn S64x512.size inbn) (fun _ => rfl))
    (a1 := cM.slice (Rect.unit (s := S2048x512) offn S64x512.size inbn) (fun _ => rfl)) (a2 := cM.slice (Rect.unit (s := S2048x512) off S64x512.size inb) (fun _ => rfl))
    (b1 := cM.slice (Rect.unit (s := S2048x512) off S64x512.size inb) (fun _ => rfl)) (b2 := cM.slice (Rect.unit (s := S2048x512) offn S64x512.size inbn) (fun _ => rfl))
    (GC I l d)
    (by rw [sc_send I d l k hk]; unfold CB; rw [← c_set ho inb])
    (by rw [sc_tgt d l k hk]; unfold CB; rw [← c_set hon' inbn]; exact Entails.rfl)
    (fun fd => by
      have e := sc_recv I (nxt d) l k hk
      rw [back_nxt] at e
      rw [e, show (62 * l + 31 + k) % 31 = k by omega, show (62 * l + 31 + k) / 31 + 1 = 2 * l + 2 by omega]
      refine sep_mono ?_ Entails.rfl
      have w : ∀ i ∈ rows (k + 1), ((View.whole cc0_scratch2).slice (Rect.unit (s := S2048x512) offn S64x512.size inbn)).write (Elt F) fd
          (((View.whole cc0_scratch2).slice (Rect.unit (s := S2048x512) off S64x512.size inb)).read (Elt F) (GC I l d)) Finset.univ i = GR I l (nxt d) i := fun i hi => by
        rw [c_read ho inb (GC I l d), row64_GC I l d k (by omega)]
        have := c_write hon' inbn fd (fun s => RS I l (s - 1) (prv (nxt d))) i hi
        rw [show k + 1 - 1 = k from rfl, prv_nxt] at this
        unfold GR
        rw [prv_nxt]
        exact this
      rw [← CB_congr (nxt d) _ w]
      unfold CB
      rw [← c_set hon' inbn])
    rfl rfl rfl hS hS' hR hR' (hsc := hsc) (h1 := h1) (h2 := h2) (h3 := h3) (h4 := h4) (h5 := h5) (h6 := h6) (h7 := h7) (k := kk') (Q := Q)
  unfold SC
  rw [bigSep_Ico_succ_bot (show 62 * l + 31 + k < 62 * l + 62 by omega), bigSep_range_succ (k + 1), bigSep_range_succ k]
  iintro ⟨#HK, Hcore, ⟨Hx, Hxs⟩, ⟨Ht, Hts⟩, Hb, Hp⟩ Hk
  iapply (hhop _) $$ [Hcore Hx Ht Hb]
  · rw [sc_send I d l k hk, show (62 * l + 31 + k) % 31 = k by omega, show (62 * l + 31 + k) / 31 + 1 = 2 * l + 2 by omega]
    isplitr; · iexact HK
    isplitl [Hcore]; · iexact Hcore
    isplitl [Hx]; · iexact Hx
    isplitl [Ht]; · iexact Ht
    iexact Hb
  rw [sc_send I d l k hk, sc_recv I d l k hk]
  iintro ⟨Hcore, Hx, Hy, Hb⟩
  iapply (ld_c d (GR I l d) hos') $$ Hy
  iintro Hy
  iapply (ld_p d (GP I l d) hop') $$ Hp
  iintro Hp
  iapply (ld_c d (GR I l d) hos') $$ Hy
  iintro Hy
  iapply (st_c d (GR I l d) hos' (fun s => RS I l s d) (w := k0_pay18 (addf (row64 (GR I l d) (k + 1)) (row64 (GP I l d) (back d (k + 2)).val)))
    (by rw [pay_id, row64_GR I l d k (by omega)]; rfl)) $$ Hy
  iintro Hy
  iapply Hk
  isplitr; · iexact HK
  isplitl [Hcore]; · iexact Hcore
  isplitl [Hx Hy Hxs]
  · isplitl [Hy]; · iexact Hy
    isplitl [Hx] <;> iassumption
  isplitl [Hts]; · iexact Hts
  isplitl [Hb]; · iexact Hb
  iexact Hp

end Scatter

end Cert.KernelIdealProof

end
-- ==== Proof.IdealPhases.lean ====
/-
The six loops, and what passes between them: a device's free blocks bundled for its left neighbour, and the
bundle taken apart by the one that copies into it.
-/
module

public import proofs.«01_k».proof.Proof.IdealTrips
public import Idealize.SL.BI.BigOpNat
public import Idealize.ShloMosaic.Lib.Pipeline.Value

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (I : Inp F) (K : Dev nD × Option (Fin 128) → ℕ)

/-! ### Bundles -/

theorem blocks_head (Φ : ℕ → sProp 𝕄) : bigSep (Finset.range 32) Φ = iprop(Φ 0 ∗ bigSep (Finset.Ico 1 32) Φ) := by
  rw [Finset.range_eq_Ico]; exact bigSep_Ico_succ_bot (by decide) Φ

/-- The hops of phase `p`, numbered by the block each fills. -/
theorem phase_shift (p : ℕ) (Φ : ℕ → sProp 𝕄) : bigSep (Finset.Ico (31 * p) (31 * p + 31)) (fun t => Φ (t % 31 + 1)) = bigSep (Finset.Ico 1 32) Φ := by
  have hinj : Set.InjOn (fun t => t % 31 + 1) (Finset.Ico (31 * p) (31 * p + 31) : Finset ℕ) := fun i hi j hj h => by
    have hi := Finset.mem_Ico.mp (Finset.mem_coe.mp hi)
    have hj := Finset.mem_Ico.mp (Finset.mem_coe.mp hj)
    have h : i % 31 + 1 = j % 31 + 1 := h
    omega
  rw [← bigSep_image_of_injOn hinj Φ]
  congr 1
  ext b
  rw [Finset.mem_image, Finset.mem_Ico]
  constructor
  · rintro ⟨t, -, rfl⟩; show 1 ≤ t % 31 + 1 ∧ t % 31 + 1 < 32; omega
  · intro hb
    exact ⟨31 * p + (b - 1), Finset.mem_Ico.mpr (by omega), by show (31 * p + (b - 1)) % 31 + 1 = b; omega⟩

/-- What can be drawn from `P` without spending it can be drawn for all of `s`. -/
theorem draw_all (P : sProp 𝕄) (s : Finset ℕ) (Φ : ℕ → sProp 𝕄) (h : ∀ u ∈ s, P ⊢ iprop(P ∗ Φ u)) : P ⊢ iprop(P ∗ bigSep s Φ) := by
  induction s using Finset.induction_on with
  | empty =>
    rw [show (bigSep ∅ Φ : sProp 𝕄) = iprop(emp) from bigSep_empty]
    iintro H
    isplitl [H]; · iexact H
    iempintro
  | insert a s ha ih =>
    rw [show (bigSep (insert a s) Φ : sProp 𝕄) = iprop(Φ a ∗ bigSep s Φ) from BI.bigSep_insert ha]
    iintro H
    ihave H1 := (ih fun u hu => h u (Finset.mem_insert_of_mem hu)) $$ H
    icases H1 with ⟨H, Hs⟩
    ihave H2 := (h a (Finset.mem_insert_self a s)) $$ H
    icases H2 with ⟨H, Ha⟩
    isplitl [H]; · iexact H
    isplitl [Ha] <;> iassumption

theorem any_of (s : Finset ℕ) (Φ : ℕ → FVec F S2048x512 .f32 → sProp 𝕄) (f : FVec F S2048x512 .f32) :
    bigSep s (fun t => Φ t f) ⊢ bigSep s fun t => iprop(∃ f, Φ t f) := bigSep_mono fun t _ => by
  show (Φ t f : sProp 𝕄) ⊢ iprop(∃ f, Φ t f)
  iintro H; iexists f; iexact H

/-- The device is at the round of hop `u`: it can say so. -/
theorem mark (d : Dev nD) (t u : ℕ) (h : rnd (kR u).val t = u / 62) : (pos d t : sProp 𝕄) ⊢ iprop(pos d t ∗ reached ER (cR d u) (u / 62)) := by
  have e : (pos d t : sProp 𝕄) = iprop(posn (cell d (some (kR u))) (rnd (kR u).val t) ∗ bigSep (Finset.univ.erase (kR u)) fun k : Fin 128 => posn (cell d (some k)) (rnd k.val t)) :=
    take_out (Finset.mem_univ (kR u)) _
  rw [e, h, posn_sep]
  iintro ⟨⟨Ha, #Hr⟩, Hrest⟩
  isplitl [Ha Hrest]
  · isplitl [Ha]
    · isplitl [Ha]; · iexact Ha
      iexact Hr
    iexact Hrest
  iexact Hr

/-- The hops of the phase to come find their cells at their own round. -/
theorem mark_ok (p t : ℕ) (hp : p < 6) (ht : t = 31 * (p - 1)) : ∀ u ∈ Finset.Ico (31 * p) (31 * p + 31), rnd (kR u).val t = u / 62 := fun u hu => by
  have hu := Finset.mem_Ico.mp hu
  show rnd (64 * (u % 62 / 31) + u % 31 + 32) t = u / 62
  unfold rnd
  rw [if_pos (by omega)]
  omega

theorem marks (d : Dev nD) (p t : ℕ) (hp : p < 6) (ht : t = 31 * (p - 1)) :
    (pos d t : sProp 𝕄) ⊢ iprop(pos d t ∗ bigSep (Finset.Ico (31 * p) (31 * p + 31)) fun u => reached ER (cR d u) (u / 62)) :=
  draw_all _ _ _ fun u hu => mark d t u (mark_ok p t hp ht u hu)

/-- The gather buffer: the device keeps its own block and bundles the others. -/
theorem bun_x (d : Dev nD) (q t : ℕ) (hq : q < 3) (ht : t = 31 * (2 * q - 1)) (f : FVec F S2048x512 .f32) :
    iprop(pos d t ∗ XW d f) ⊢ iprop(pos d t ∗ XB d d.val f ∗ bun d (2 * q)) := by
  have e : (XW d f : sProp 𝕄) = iprop(XB d d.val f ∗ bigSep (Finset.Ico (31 * (2 * q)) (31 * (2 * q) + 31)) fun t => XB d (back d (t % 31 + 1)).val f) := by
    rw [XW_blocks, ← round_ring d, blocks_head, back_zero, phase_shift (2 * q) fun j => XB d (back d j).val f]
  have b : (bun d (2 * q) : sProp 𝕄) = bigSep (Finset.Ico (31 * (2 * q)) (31 * (2 * q) + 31)) fun t =>
      iprop((∃ f, XB d (back d (t % 31 + 1)).val f) ∗ reached ER (cR d t) (t / 62)) := by
    unfold bun
    rw [if_pos (by omega)]
    refine bigSep_congr fun u hu => ?_
    have hu := Finset.mem_Ico.mp hu
    unfold tgt
    rw [show u / 31 % 2 = 0 by omega]
    rfl
  rw [e, b, bigSep_sep']
  iintro ⟨Hp, Hx, Hxs⟩
  ihave H := (marks d (2 * q) t (by omega) ht) $$ Hp
  icases H with ⟨Hp, Hm⟩
  isplitl [Hp]; · iexact Hp
  isplitl [Hx]; · iexact Hx
  isplitl [Hxs]
  · iapply (any_of _ (fun t f => XB d (back d (t % 31 + 1)).val f) f)
    iexact Hxs
  iexact Hm

/-- The communication buffer: the device keeps block 0 and bundles the others. -/
theorem bun_c (d : Dev nD) (q t : ℕ) (hq : q < 3) (ht : t = 62 * q) (f : FVec F S2048x512 .f32) :
    iprop(pos d t ∗ CW d f) ⊢ iprop(pos d t ∗ CB d 0 f ∗ bun d (2 * q + 1)) := by
  have e : (CW d f : sProp 𝕄) = iprop(CB d 0 f ∗ bigSep (Finset.Ico (31 * (2 * q + 1)) (31 * (2 * q + 1) + 31)) fun t => CB d (t % 31 + 1) f) := by
    rw [CW_blocks, blocks_head, phase_shift (2 * q + 1) fun j => CB d j f]
  have b : (bun d (2 * q + 1) : sProp 𝕄) = bigSep (Finset.Ico (31 * (2 * q + 1)) (31 * (2 * q + 1) + 31)) fun t =>
      iprop((∃ f, CB d (t % 31 + 1) f) ∗ reached ER (cR d t) (t / 62)) := by
    unfold bun
    rw [if_pos (by omega)]
    refine bigSep_congr fun u hu => ?_
    have hu := Finset.mem_Ico.mp hu
    unfold tgt
    rw [show u / 31 % 2 = 1 by omega]
    rfl
  rw [e, b, bigSep_sep']
  iintro ⟨Hp, Hx, Hxs⟩
  ihave H := (marks d (2 * q + 1) t (by omega) (by omega)) $$ Hp
  icases H with ⟨Hp, Hm⟩
  isplitl [Hp]; · iexact Hp
  isplitl [Hx]; · iexact Hx
  isplitl [Hxs]
  · iapply (any_of _ (fun t f => CB d (t % 31 + 1) f) f)
    iexact Hxs
  iexact Hm

/-! ### Entering and leaving a loop -/

/-- Into layer `l`'s all-gather, with its own block in place, its neighbour's bundle, and its own next bundle to pass on. -/
theorem ag_enter (d : Dev nD) (l : ℕ) (hl : l < 3) (f : FVec F S2048x512 .f32) :
    iprop(know I K ∗ core d (62 * l) ∗ XB d d.val (GX I l) ∗ CW d f ∗ bun (nxt d) (2 * l)) ⊢ iprop(AG I K d l 0 ∗ CB d 0 f) := by
  unfold AG core
  rw [back_zero, Finset.range_one, BI.bigSep_singleton, back_zero]
  have b : (bun (nxt d) (2 * l) : sProp 𝕄) = bigSep (Finset.Ico (62 * l + 0) (62 * l + 31)) fun t => tgt (nxt d) t := by
    unfold bun; rw [if_pos (by omega), show 31 * (2 * l) = 62 * l by omega]; rfl
  rw [b]
  iintro ⟨HK, ⟨Hp, Hk, HW⟩, Hx, Hc, Hb⟩
  ihave H := (bun_c d l (62 * l) hl rfl f) $$ [Hp Hc]
  · isplitl [Hp] <;> iassumption
  icases H with ⟨Hp, Hc, Hd⟩
  isplitr [Hc]
  · isplitl [HK]; · iexact HK
    isplitl [Hp Hk HW]
    · isplitl [Hp]; · iexact Hp
      isplitl [Hk] <;> iassumption
    isplitl [Hx]; · iexact Hx
    isplitl [Hb]; · iexact Hb
    iexact Hd
  iexact Hc

/-- Out of it: the gather buffer is whole again, and the neighbour's bundle for the next phase is here. -/
theorem ag_leave (d : Dev nD) (l : ℕ) (hl : l < 3) :
    AG I K d l 31 ⊢ iprop(know I K ∗ core d (62 * l + 31) ∗ XW d (GX I l) ∗ bun (nxt d) (2 * l + 1)) := by
  unfold AG
  rw [back_31, show 31 + 1 = 32 from rfl, round_ring d fun k => XB d k (GX I l), ← XW_blocks]
  iintro ⟨HK, Hc, Hx, -, Hb⟩
  isplitl [HK]; · iexact HK
  isplitl [Hc]; · iexact Hc
  isplitl [Hx] <;> iassumption

/-- Into layer `l`'s reduce-scatter; the gather buffer's other blocks are passed on, but after the last layer. -/
theorem sc_enter (d : Dev nD) (l : ℕ) (hl : l < 2) :
    iprop(know I K ∗ core d (62 * l + 31) ∗ CB d 0 (GC I l d) ∗ XW d (GX I l) ∗ PW d (GP I l d) ∗ bun (nxt d) (2 * l + 1))
      ⊢ iprop(SC I K d l 0 ∗ XB d d.val (GX I l)) := by
  unfold SC core
  rw [back_zero, Finset.range_one, BI.bigSep_singleton]
  have b : (bun (nxt d) (2 * l + 1) : sProp 𝕄) = bigSep (Finset.Ico (62 * l + 31 + 0) (62 * l + 62)) fun t => tgt (nxt d) t := by
    unfold bun; rw [if_pos (by omega), show 31 * (2 * l + 1) = 62 * l + 31 by omega]
  rw [b]
  iintro ⟨HK, ⟨Hp, Hk, HW⟩, Hc, Hx, Hq, Hb⟩
  ihave H := (bun_x d (l + 1) (62 * l + 31) (by omega) (by omega) (GX I l)) $$ [Hp Hx]
  · isplitl [Hp] <;> iassumption
  icases H with ⟨Hp, Hx, Hd⟩
  isplitr [Hx]
  · isplitl [HK]; · iexact HK
    isplitl [Hp Hk HW]
    · isplitl [Hp]; · iexact Hp
      isplitl [Hk] <;> iassumption
    isplitl [Hc]; · iexact Hc
    isplitl [Hb]; · iexact Hb
    isplitl [Hd]; · iexact Hd
    iexact Hq
  iexact Hx

theorem sc_enter_last (d : Dev nD) :
    iprop(know I K ∗ core d (62 * 2 + 31) ∗ CB d 0 (GC I 2 d) ∗ PW d (GP I 2 d) ∗ bun (nxt d) (2 * 2 + 1)) ⊢ SC I K d 2 0 := by
  unfold SC
  rw [back_zero, Finset.range_one, BI.bigSep_singleton]
  have b : (bun (nxt d) (2 * 2 + 1) : sProp 𝕄) = bigSep (Finset.Ico (62 * 2 + 31 + 0) (62 * 2 + 62)) fun t => tgt (nxt d) t := rfl
  have e : (bun d (2 * 2 + 2) : sProp 𝕄) = iprop(emp) := rfl
  rw [b, e]
  iintro ⟨HK, Hp, Hc, Hq, Hb⟩
  isplitl [HK]; · iexact HK
  isplitl [Hp]; · iexact Hp
  isplitl [Hc]; · iexact Hc
  isplitl [Hb]; · iexact Hb
  isplitr; · iempintro
  iexact Hq

theorem sc_leave (d : Dev nD) (l : ℕ) :
    SC I K d l 31 ⊢ iprop(know I K ∗ core d (62 * (l + 1)) ∗ CW d (GC I l d) ∗ PW d (GP I l d) ∗ bun (nxt d) (2 * (l + 1))) := by
  unfold SC
  rw [back_31, show 31 + 1 = 32 from rfl, ← CW_blocks, show 62 * l + 31 + 31 = 62 * (l + 1) by omega]
  iintro ⟨HK, Hc, Hx, -, Hb, Hq⟩
  isplitl [HK]; · iexact HK
  isplitl [Hc]; · iexact Hc
  isplitl [Hx]; · iexact Hx
  isplitl [Hq] <;> iassumption

end Cert.KernelIdealProof

end
-- ==== Proof.IdealFlat.lean ====
/-
The kernel body in one piece: what the printed parts come to when they are run one after the other.
-/
module

public import proofs.«01_k».proof.Proof.IdealPhases
public import Idealize.SL.BI.BigOpNat
public import Idealize.ShloMosaic.Lib.Pipeline.Value

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ### The body in one piece -/

/-- The zero values handed to loops that do not look at them. -/
abbrev z64 : FVec F S64x512 .f32 := constant S64x512 .f32 0x00000000#32
abbrev z256 : FVec F S256x1024 .f32 := constant S256x1024 .f32 0x00000000#32

/-- One block of a layer: 256 rows of the gather buffer through the layer, into the partial buffer. -/
def blk (w : Memref sig .tc .vmem S512x1024 .f32) (v : Memref sig .tc .vmem S1024x512 .f32) (b : ℕ)
    (inb : ∀ a, (![256 * b, 0] : Fin 2 → ℕ) a + S256x512.size a ≤ S2048x512.size a)
    (kk : Prog (TpuEff nD τ sig (Elt F) Λ₀ .tc) PUnit) : Prog (TpuEff nD τ sig (Elt F) Λ₀ .tc) PUnit :=
  .op (.load xM (Rect.unit (s := S2048x512) ![256 * b, 0] S256x512.size inb).toLoadRect (View.loadsAt_vmem h_S256x512)) fun (x : Vec F S256x512 .f32) =>
  .op (.load w (Rect.unit (s := S512x1024) ![0, 0] S512x1024.size inb_S512x1024_S512x1024_0_0).toLoadRect (View.loadsAt_vmem h_S512x1024)) fun (wv : Vec F S512x1024 .f32) =>
  .op (.load v (Rect.unit (s := S1024x512) ![0, 0] S1024x512.size inb_S1024x512_S1024x512_0_0).toLoadRect (View.loadsAt_vmem h_S1024x512)) fun (vv : Vec F S1024x512 .f32) =>
  .op (.load pM (Rect.unit (s := S2048x512) ![256 * b, 0] S256x512.size inb).toLoadRect (View.loadsAt_vmem h_S256x512)) fun _ =>
  .op (.store pM (Rect.unit (s := S2048x512) ![256 * b, 0] S256x512.size inb) (mlp wv vv x) Finset.univ (View.stores_vmem_bits_univ h_S256x512 rfl) (.inl rfl)) fun _ => kk

/-- A layer: its eight blocks. -/
def layer (w : Memref sig .tc .vmem S512x1024 .f32) (v : Memref sig .tc .vmem S1024x512 .f32)
    (kk : Prog (TpuEff nD τ sig (Elt F) Λ₀ .tc) PUnit) : Prog (TpuEff nD τ sig (Elt F) Λ₀ .tc) PUnit :=
  blk w v 0 inb_S2048x512_S256x512_0_0 <| blk w v 1 inb_S2048x512_S256x512_256_0 <| blk w v 2 inb_S2048x512_S256x512_512_0 <|
  blk w v 3 inb_S2048x512_S256x512_768_0 <| blk w v 4 inb_S2048x512_S256x512_1024_0 <| blk w v 5 inb_S2048x512_S256x512_1280_0 <|
  blk w v 6 inb_S2048x512_S256x512_1536_0 <| blk w v 7 inb_S2048x512_S256x512_1792_0 kk

/-- The first chunk of the partial sums into the communication buffer. -/
def chunk (d : Dev nD) (kk : Prog (TpuEff nD τ sig (Elt F) Λ₀ .tc) PUnit) : Prog (TpuEff nD τ sig (Elt F) Λ₀ .tc) PUnit :=
  .op (.load pM (Rect.unit (s := S2048x512) (k0_off4 d) S64x512.size (k0_off4_inb d)).toLoadRect (View.loadsAt_vmem h_S64x512)) fun (v : Vec F S64x512 .f32) =>
  .op (.load cM (Rect.unit (s := S2048x512) ![0, 0] S64x512.size inb_S2048x512_S64x512_0_0).toLoadRect (View.loadsAt_vmem h_S64x512)) fun _ =>
  .op (.store cM (Rect.unit (s := S2048x512) ![0, 0] S64x512.size inb_S2048x512_S64x512_0_0) (k0_pay18 v) Finset.univ (View.stores_vmem_bits_univ h_S64x512 rfl) (.inl rfl)) fun _ => kk

/-- The finished chunk as the next layer's own block. -/
def carry (d : Dev nD) (kk : Prog (TpuEff nD τ sig (Elt F) Λ₀ .tc) PUnit) : Prog (TpuEff nD τ sig (Elt F) Λ₀ .tc) PUnit :=
  .op (.load cM (Rect.unit (s := S2048x512) ![1984, 0] S64x512.size inb_S2048x512_S64x512_1984_0).toLoadRect (View.loadsAt_vmem h_S64x512)) fun (v : Vec F S64x512 .f32) =>
  .op (.load xM (Rect.unit (s := S2048x512) (k0_off1 d) S64x512.size (k0_off1_inb d)).toLoadRect (View.loadsAt_vmem h_S64x512)) fun _ =>
  .op (.store xM (Rect.unit (s := S2048x512) (k0_off1 d) S64x512.size (k0_off1_inb d)) (k0_pay18 v) Finset.univ (View.stores_vmem_bits_univ h_S64x512 rfl) (.inl rfl)) fun _ => kk

section Body

variable (a0 : Memref sig .tc .vmem S64x512 .f32) (h0 : a0.IsWhole) (a1 : Memref sig .tc .vmem S512x1024 .f32) (h1 : a1.IsWhole)
  (a2 : Memref sig .tc .vmem S1024x512 .f32) (h2 : a2.IsWhole) (a3 : Memref sig .tc .vmem S512x1024 .f32) (h3 : a3.IsWhole)
  (a4 : Memref sig .tc .vmem S1024x512 .f32) (h4 : a4.IsWhole) (a5 : Memref sig .tc .vmem S512x1024 .f32) (h5 : a5.IsWhole)
  (a6 : Memref sig .tc .vmem S1024x512 .f32) (h6 : a6.IsWhole) (a7 : Memref sig .tc .vmem S64x512 .f32) (h7 : a7.IsWhole)

/-- What is left after the entry signal. -/
def flat (d : Dev nD) : Prog (TpuEff nD τ sig (Elt F) Λ₀ .tc) PUnit :=
  .op (.load a0 (Rect.unit (s := S64x512) ![0, 0] S64x512.size inb_S64x512_S64x512_0_0).toLoadRect (View.loadsAt_vmem h_S64x512)) fun (x : Vec F S64x512 .f32) =>
  .op (.load xM (Rect.unit (s := S2048x512) (k0_off1 d) S64x512.size (k0_off1_inb d)).toLoadRect (View.loadsAt_vmem h_S64x512)) fun _ =>
  .op (.store xM (Rect.unit (s := S2048x512) (k0_off1 d) S64x512.size (k0_off1_inb d)) (k0_pay4 x) Finset.univ (View.stores_vmem_bits_univ h_S64x512 rfl) (.inl rfl)) fun _ =>
  Scf.Loop.for k0_t1_loop k0_t1_ok ⟨⟩ (k0_t1_body a0 h0 a1 h1 a2 h2 a3 h3 a4 h4 a5 h5 a6 h6 a7 h7 xM (Memref.isWhole_whole _) pM (Memref.isWhole_whole _) cM (Memref.isWhole_whole _) cc0_scratch3 cc0_scratch4 cc0_scratch5 cc0_scratch6 d) >>= fun _ =>
  layer a1 a2 <| chunk d <|
  Scf.Loop.for k0_t2_loop k0_t2_ok ⟨⟩ (k0_t2_body a0 h0 a1 h1 a2 h2 a3 h3 a4 h4 a5 h5 a6 h6 a7 h7 xM (Memref.isWhole_whole _) pM (Memref.isWhole_whole _) cM (Memref.isWhole_whole _) cc0_scratch3 cc0_scratch4 cc0_scratch5 cc0_scratch6 d 0#32 0#32 0#32 0#32) >>= fun _ => carry d <|
  Scf.Loop.for k0_t3_loop k0_t3_ok ⟨⟩ (k0_t3_body a0 h0 a1 h1 a2 h2 a3 h3 a4 h4 a5 h5 a6 h6 a7 h7 xM (Memref.isWhole_whole _) pM (Memref.isWhole_whole _) cM (Memref.isWhole_whole _) cc0_scratch3 cc0_scratch4 cc0_scratch5 cc0_scratch6 d 0#32 0#32 0#32 0#32) >>= fun _ =>
  layer a3 a4 <| chunk d <|
  Scf.Loop.for k0_t4_loop k0_t4_ok ⟨⟩ (k0_t4_body a0 h0 a1 h1 a2 h2 a3 h3 a4 h4 a5 h5 a6 h6 a7 h7 xM (Memref.isWhole_whole _) pM (Memref.isWhole_whole _) cM (Memref.isWhole_whole _) cc0_scratch3 cc0_scratch4 cc0_scratch5 cc0_scratch6 d 0#32 0#32 0#32 z64 z64) >>= fun _ => carry d <|
  Scf.Loop.for k0_t5_loop k0_t5_ok ⟨⟩ (k0_t5_body a0 h0 a1 h1 a2 h2 a3 h3 a4 h4 a5 h5 a6 h6 a7 h7 xM (Memref.isWhole_whole _) pM (Memref.isWhole_whole _) cM (Memref.isWhole_whole _) cc0_scratch3 cc0_scratch4 cc0_scratch5 cc0_scratch6 d 0#32 0#32 0#32 z64 z64) >>= fun _ =>
  layer a5 a6 <| chunk d <|
  Scf.Loop.for k0_t6_loop k0_t6_ok ⟨⟩ (k0_t6_body a0 h0 a1 h1 a2 h2 a3 h3 a4 h4 a5 h5 a6 h6 a7 h7 xM (Memref.isWhole_whole _) pM (Memref.isWhole_whole _) cM (Memref.isWhole_whole _) cc0_scratch3 cc0_scratch4 cc0_scratch5 cc0_scratch6 d 0#32 0#32 z256) >>= fun _ =>
  .op (.load cM (Rect.unit (s := S2048x512) ![1984, 0] S64x512.size inb_S2048x512_S64x512_1984_0).toLoadRect (View.loadsAt_vmem h_S64x512)) fun (v : Vec F S64x512 .f32) =>
  .op (.load a7 (Rect.unit (s := S64x512) ![0, 0] S64x512.size inb_S64x512_S64x512_0_0).toLoadRect (View.loadsAt_vmem h_S64x512)) fun _ =>
  .op (.store a7 (Rect.unit (s := S64x512) ![0, 0] S64x512.size inb_S64x512_S64x512_0_0) v Finset.univ (View.stores_vmem_bits_univ h_S64x512 rfl) (.inl rfl)) fun _ => .ret ⟨⟩

set_option maxRecDepth 65536 in
theorem body_flat : cc0_body (F := F) a0 h0 a1 h1 a2 h2 a3 h3 a4 h4 a5 h5 a6 h6 a7 h7 xM (Memref.isWhole_whole _) pM (Memref.isWhole_whole _) cM (Memref.isWhole_whole _) cc0_scratch3 cc0_scratch4 cc0_scratch5 cc0_scratch6 = .op .deviceId fun d =>
    semSignalWord (⟨k0_dev1 d, k0_dev1_lt d⟩ : Dev nD) (SemArray.scalar (sig.barrier 0 rfl) : Sems sig S_).sem 1#32 >>= fun _ =>
    semWaitWord (SemArray.scalar (sig.barrier 0 rfl) : Sems sig S_).sem 1#32 >>= fun _ => flat a0 h0 a1 h1 a2 h2 a3 h3 a4 h4 a5 h5 a6 h6 a7 h7 d := by
  rw [cc0_body_eq_skeleton]
  unfold cc0_body_skel
  simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold k0_part4_skel k0_part5_skel k0_part6_skel k0_part7_skel k0_part8_skel k0_part9_skel k0_part10_skel k0_part11_skel k0_part12_skel k0_part13_skel k0_part14_skel k0_part15_skel
  simp only [bind_assoc]
  rfl

end Body

end Cert.KernelIdealProof

end
-- ==== Proof.IdealLoops.lean ====
/-
The six loops run at a symbolic device.
-/
module

public import proofs.«01_k».proof.Proof.IdealFlat
public import Idealize.SL.BI.BigOpNat
public import Idealize.ShloMosaic.Lib.Pipeline.Value

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (I : Inp F) (K : Dev nD × Option (Fin 128) → ℕ)

/-! ### The loops -/

theorem of_step {P R B W : sProp 𝕄} (h : P ⊢ iprop((R -∗ B) -∗ W)) (hr : R ⊢ B) : P ⊢ W := by
  iintro HP
  iapply h $$ HP
  iintro HR
  iapply hr
  iexact HR

theorem ret_of (d : Dev nD) (R : sProp 𝕄) : R ⊢ run d (.ret () : Prog (TpuEff nD τ sig (Elt F) Λ₀ .tc) Unit) (fun _ => R) := by
  unfold run
  rw [wp_ret]
  exact fupd_intro

/-- A loop of 31 trips that keeps an invariant. -/
theorem loop_rule (d : Dev nD) {l : Scf.Loop 32} (hok : l.OK) (ht : l.trips = 31) (Inv : ℕ → sProp 𝕄)
    (body : Fin l.trips → Unit → Prog (TpuEff nD τ sig (Elt F) Λ₀ .tc) Unit)
    (hb : ∀ k : Fin l.trips, Inv k.val ⊢ run d (body k ()) (fun _ => Inv (k.val + 1)))
    {β : Type} {kk : Unit → Prog (TpuEff nD τ sig (Elt F) Λ₀ .tc) β} {Q : β → sProp 𝕄} :
    Inv 0 ⊢ iprop((Inv 31 -∗ run d (kk ()) Q) -∗ run d (Scf.Loop.for l hok () body >>= kk) Q) := by
  have h := Scf.wp_for_bind frame (wpE (defs₀ (F := F)) Variants.none (d : Thread nD τ) none) Set.univ l.lb l.ub l.st hok () body
    (fun k _ => Inv k) (fun k _ => hb k) (kk := kk) (Q := Q)
  have ht' : Scf.trips l.lb l.ub l.st = 31 := ht
  rw [ht'] at h
  iintro H Hk
  iapply h $$ H
  iintro %acc H
  iapply Hk
  iexact H

/-- The own semaphores' places: an all-gather hop's send and receive ones, a reduce-scatter hop's. -/
theorem qS (k : ℕ) (hk : k < 31) : 8 + k = 8 + (kS k).val := by show 8 + k = 8 + (64 * (k % 62 / 31) + k % 31); omega
theorem qR (k : ℕ) (hk : k < 31) : 40 + k = 8 + (kR k).val := by show 40 + k = 8 + (64 * (k % 62 / 31) + k % 31 + 32); omega
theorem qS' (k : ℕ) (hk : k < 31) : 72 + k = 8 + (kS (31 + k)).val := by show 72 + k = 8 + (64 * ((31 + k) % 62 / 31) + (31 + k) % 31); omega
theorem qR' (k : ℕ) (hk : k < 31) : 104 + k = 8 + (kR (31 + k)).val := by show 104 + k = 8 + (64 * ((31 + k) % 62 / 31) + (31 + k) % 31 + 32); omega

section Loops

variable (a0 : Memref sig .tc .vmem S64x512 .f32) (h0 : a0.IsWhole) (a1 : Memref sig .tc .vmem S512x1024 .f32) (h1 : a1.IsWhole)
  (a2 : Memref sig .tc .vmem S1024x512 .f32) (h2 : a2.IsWhole) (a3 : Memref sig .tc .vmem S512x1024 .f32) (h3 : a3.IsWhole)
  (a4 : Memref sig .tc .vmem S1024x512 .f32) (h4 : a4.IsWhole) (a5 : Memref sig .tc .vmem S512x1024 .f32) (h5 : a5.IsWhole)
  (a6 : Memref sig .tc .vmem S1024x512 .f32) (h6 : a6.IsWhole) (a7 : Memref sig .tc .vmem S64x512 .f32) (h7 : a7.IsWhole)

theorem gather1 (d : Dev nD) (k : Fin k0_t1_loop.trips) :
    AG I K d 0 k.val ⊢ run d (k0_t1_body a0 h0 a1 h1 a2 h2 a3 h3 a4 h4 a5 h5 a6 h6 a7 h7 xM (Memref.isWhole_whole _) pM (Memref.isWhole_whole _) cM (Memref.isWhole_whole _) cc0_scratch3 cc0_scratch4 cc0_scratch5 cc0_scratch6 d k ()) (fun _ => AG I K d 0 (k.val + 1)) :=
  have hk : k.val < 31 := k.isLt.trans_le k0_t1_abs.2.1
  of_step (ag_trip I K d ⟨k0_dev2 d, k0_dev2_lt d⟩ 0 k.val (by decide) hk (k0_dev2_eq d) (k0_off3_eq d k)
    (own_sem (k0_off2_eq k) _ (qS k.val hk)) (own_sem (k0_off2_eq k) _ (qS k.val hk)) (own_sem (k0_off2_eq k) _ (qR k.val hk)) (own_sem (k0_off2_eq k) _ (qR k.val hk)))
    (ret_of d _)
theorem scatter2 (d : Dev nD) (v2 v4 v11 v116 : BitVec 32) (k : Fin k0_t2_loop.trips) :
    SC I K d 0 k.val ⊢ run d (k0_t2_body a0 h0 a1 h1 a2 h2 a3 h3 a4 h4 a5 h5 a6 h6 a7 h7 xM (Memref.isWhole_whole _) pM (Memref.isWhole_whole _) cM (Memref.isWhole_whole _) cc0_scratch3 cc0_scratch4 cc0_scratch5 cc0_scratch6 d v2 v4 v11 v116 k ()) (fun _ => SC I K d 0 (k.val + 1)) :=
  have hk : k.val < 31 := k.isLt.trans_le k0_t2_abs.2.1
  of_step (sc_trip I K d ⟨k0_dev3 d, k0_dev3_lt d⟩ 0 k.val (by decide) hk (k0_dev3_eq d) (k0_off7_eq k) (k0_off6_eq k) (k0_off8_eq k) (k0_off9_eq d k)
    (own_sem (k0_off5_eq k) _ (qS' k.val hk)) (own_sem (k0_off5_eq k) _ (qS' k.val hk)) (own_sem (k0_off5_eq k) _ (qR' k.val hk)) (own_sem (k0_off5_eq k) _ (qR' k.val hk)))
    (ret_of d _)
theorem gather3 (d : Dev nD) (v2 v4 v11 v116 : BitVec 32) (k : Fin k0_t3_loop.trips) :
    AG I K d 1 k.val ⊢ run d (k0_t3_body a0 h0 a1 h1 a2 h2 a3 h3 a4 h4 a5 h5 a6 h6 a7 h7 xM (Memref.isWhole_whole _) pM (Memref.isWhole_whole _) cM (Memref.isWhole_whole _) cc0_scratch3 cc0_scratch4 cc0_scratch5 cc0_scratch6 d v2 v4 v11 v116 k ()) (fun _ => AG I K d 1 (k.val + 1)) :=
  have hk : k.val < 31 := k.isLt.trans_le k0_t3_abs.2.1
  of_step (ag_trip I K d ⟨k0_dev4 d, k0_dev4_lt d⟩ 1 k.val (by decide) hk (k0_dev4_eq d) (k0_off11_eq d k)
    (own_sem (k0_off10_eq k) _ (qS k.val hk)) (own_sem (k0_off10_eq k) _ (qS k.val hk)) (own_sem (k0_off10_eq k) _ (qR k.val hk)) (own_sem (k0_off10_eq k) _ (qR k.val hk)))
    (ret_of d _)
theorem scatter4 (d : Dev nD) (v2 v4 v11 : BitVec 32) (u u' : Vec F S64x512 .f32) (k : Fin k0_t4_loop.trips) :
    SC I K d 1 k.val ⊢ run d (k0_t4_body a0 h0 a1 h1 a2 h2 a3 h3 a4 h4 a5 h5 a6 h6 a7 h7 xM (Memref.isWhole_whole _) pM (Memref.isWhole_whole _) cM (Memref.isWhole_whole _) cc0_scratch3 cc0_scratch4 cc0_scratch5 cc0_scratch6 d v2 v4 v11 u u' k ()) (fun _ => SC I K d 1 (k.val + 1)) :=
  have hk : k.val < 31 := k.isLt.trans_le k0_t4_abs.2.1
  of_step (sc_trip I K d ⟨k0_dev5 d, k0_dev5_lt d⟩ 1 k.val (by decide) hk (k0_dev5_eq d) (k0_off14_eq k) (k0_off13_eq k) (k0_off15_eq k) (k0_off16_eq d k)
    (own_sem (k0_off12_eq k) _ (qS' k.val hk)) (own_sem (k0_off12_eq k) _ (qS' k.val hk)) (own_sem (k0_off12_eq k) _ (qR' k.val hk)) (own_sem (k0_off12_eq k) _ (qR' k.val hk)))
    (ret_of d _)
theorem gather5 (d : Dev nD) (v2 v4 v11 : BitVec 32) (u u' : Vec F S64x512 .f32) (k : Fin k0_t5_loop.trips) :
    AG I K d 2 k.val ⊢ run d (k0_t5_body a0 h0 a1 h1 a2 h2 a3 h3 a4 h4 a5 h5 a6 h6 a7 h7 xM (Memref.isWhole_whole _) pM (Memref.isWhole_whole _) cM (Memref.isWhole_whole _) cc0_scratch3 cc0_scratch4 cc0_scratch5 cc0_scratch6 d v2 v4 v11 u u' k ()) (fun _ => AG I K d 2 (k.val + 1)) :=
  have hk : k.val < 31 := k.isLt.trans_le k0_t5_abs.2.1
  of_step (ag_trip I K d ⟨k0_dev6 d, k0_dev6_lt d⟩ 2 k.val (by decide) hk (k0_dev6_eq d) (k0_off18_eq d k)
    (own_sem (k0_off17_eq k) _ (qS k.val hk)) (own_sem (k0_off17_eq k) _ (qS k.val hk)) (own_sem (k0_off17_eq k) _ (qR k.val hk)) (own_sem (k0_off17_eq k) _ (qR k.val hk)))
    (ret_of d _)
theorem scatter6 (d : Dev nD) (v2 v4 : BitVec 32) (u : FVec F S256x1024 .f32) (k : Fin k0_t6_loop.trips) :
    SC I K d 2 k.val ⊢ run d (k0_t6_body a0 h0 a1 h1 a2 h2 a3 h3 a4 h4 a5 h5 a6 h6 a7 h7 xM (Memref.isWhole_whole _) pM (Memref.isWhole_whole _) cM (Memref.isWhole_whole _) cc0_scratch3 cc0_scratch4 cc0_scratch5 cc0_scratch6 d v2 v4 u k ()) (fun _ => SC I K d 2 (k.val + 1)) :=
  have hk : k.val < 31 := k.isLt.trans_le k0_t6_abs.2.1
  of_step (sc_trip I K d ⟨k0_dev7 d, k0_dev7_lt d⟩ 2 k.val (by decide) hk (k0_dev7_eq d) (k0_off21_eq k) (k0_off20_eq k) (k0_off22_eq k) (k0_off23_eq d k)
    (own_sem (k0_off19_eq k) _ (qS' k.val hk)) (own_sem (k0_off19_eq k) _ (qS' k.val hk)) (own_sem (k0_off19_eq k) _ (qR' k.val hk)) (own_sem (k0_off19_eq k) _ (qR' k.val hk)))
    (ret_of d _)

end Loops

end Cert.KernelIdealProof

end
-- ==== Proof.IdealBody.lean ====
/-
The layers run, and the whole body run from the entry signal to the output at a symbolic device.
-/
module

public import proofs.«01_k».proof.Proof.IdealLoops
public import Idealize.SL.BI.BigOpNat
public import Idealize.ShloMosaic.Lib.Pipeline.Value

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (I : Inp F) (K : Dev nD × Option (Fin 128) → ℕ)

/-! ### The windows -/

/-- `R` is ownership of the whole of `m`, holding `f`: a load of all of it gives `f`. -/
def Holds (d : Dev nD) {s : Shape} (m : Memref sig .tc .vmem s .f32) (off : Fin s.rank → ℕ) (R : sProp 𝕄) (f : Vec F s .f32) : Prop :=
  ∀ {inb : ∀ a, off a + s.size a ≤ s.size a} {hl} {α : Type} {Q : α → sProp 𝕄} {kk : Vec F s .f32 → Prog (TpuEff nD τ sig (Elt F) Λ₀ .tc) α},
    R ⊢ iprop((R -∗ run d (kk f) Q) -∗ run d (.op (.load m (Rect.unit (s := s) off s.size inb).toLoadRect hl) kk) Q)

/-- `R w` is ownership of the whole of `m`, holding `w`: a store of all of it changes `w`. -/
def Takes (d : Dev nD) {s : Shape} (m : Memref sig .tc .vmem s .f32) (off : Fin s.rank → ℕ) (R : Vec F s .f32 → sProp 𝕄) : Prop :=
  ∀ (f w : Vec F s .f32) {inb : ∀ a, off a + s.size a ≤ s.size a} {hs hm} {α : Type} {Q : α → sProp 𝕄} {kk : PUnit → Prog (TpuEff nD τ sig (Elt F) Λ₀ .tc) α},
    R f ⊢ iprop((R w -∗ run d (kk ⟨⟩) Q) -∗ run d (.op (.store m (Rect.unit (s := s) off s.size inb) w Finset.univ hs hm) kk) Q)

/-! ### A layer -/

/-- Before block `b` of layer `l`: the blocks before it hold the layer's partial values. -/
def CP (d : Dev nD) (l b : ℕ) : sProp 𝕄 :=
  iprop(XW d (GX I l) ∗ bigSep (Finset.Ico b 8) (fun j => iprop(∃ f, PB d j f)) ∗ bigSep (Finset.range b) (fun j => PB d j (GP I l d)))

variable {w : Memref sig .tc .vmem S512x1024 .f32} {v : Memref sig .tc .vmem S1024x512 .f32}

theorem blk_rule {Rw Rv : sProp 𝕄} (d : Dev nD) (l b : ℕ) (hb : b < 8) (hw : Holds d w ![0, 0] Rw (I.win l d)) (hv : Holds d v ![0, 0] Rv (I.wout l d)) {inb}
    {kk : Prog (TpuEff nD τ sig (Elt F) Λ₀ .tc) PUnit} {Q : PUnit → sProp 𝕄} :
    iprop(CP I d l b ∗ Rw ∗ Rv) ⊢ iprop(((CP I d l (b + 1) ∗ Rw ∗ Rv) -∗ run d kk Q) -∗ run d (blk w v b inb kk) Q) := by
  unfold CP blk
  rw [bigSep_Ico_succ_bot hb, bigSep_range_succ b]
  iintro ⟨⟨Hx, ⟨⟨%f, Hp⟩, Hps⟩, Hqs⟩, Hw, Hv⟩ Hk
  iapply (ld_x256 d (GX I l) rfl) $$ Hx
  iintro Hx
  iapply hw $$ Hw
  iintro Hw
  iapply hv $$ Hv
  iintro Hv
  iapply (ld_p256 d f rfl) $$ Hp
  iintro Hp
  iapply (st_p d f rfl (fun b => mlp (I.win l d) (I.wout l d) (row256 (GX I l) b)) rfl) $$ Hp
  iintro Hp
  iapply Hk
  isplitr [Hw Hv]
  · isplitl [Hx]; · iexact Hx
    isplitl [Hps]; · iexact Hps
    isplitl [Hp]; · iexact Hp
    iexact Hqs
  isplitl [Hw] <;> iassumption

theorem layer_rule {Rw Rv : sProp 𝕄} (d : Dev nD) (l : ℕ) (hw : Holds d w ![0, 0] Rw (I.win l d)) (hv : Holds d v ![0, 0] Rv (I.wout l d))
    {kk : Prog (TpuEff nD τ sig (Elt F) Λ₀ .tc) PUnit} {Q : PUnit → sProp 𝕄} :
    iprop(XW d (GX I l) ∗ (∃ f, PW d f) ∗ Rw ∗ Rv)
      ⊢ iprop(((XW d (GX I l) ∗ PW d (GP I l d) ∗ Rw ∗ Rv) -∗ run d kk Q) -∗ run d (layer w v kk) Q) := by
  have start : iprop(XW d (GX I l) ∗ (∃ f, PW d f) ∗ Rw ∗ Rv) ⊢ iprop(CP I d l 0 ∗ Rw ∗ Rv) := by
    unfold CP
    iintro ⟨Hx, ⟨%f, Hp⟩, Hw, Hv⟩
    isplitr [Hw Hv]
    · isplitl [Hx]; · iexact Hx
      isplitl [Hp]
      · ihave Hp := (Entails.of_eq (PW_blocks d f)) $$ Hp
        rw [show Finset.Ico 0 8 = Finset.range 8 from by decide]
        ihave Hp := (any_of (Finset.range 8) (fun j f => PB d j f) f) $$ Hp
        iexact Hp
      rw [show (bigSep (Finset.range 0) (fun j => PB d j (GP I l d)) : sProp 𝕄) = iprop(emp) from bigSep_empty]
      iempintro
    isplitl [Hw] <;> iassumption
  have stop : iprop(CP I d l 8 ∗ Rw ∗ Rv) ⊢ iprop(XW d (GX I l) ∗ PW d (GP I l d) ∗ Rw ∗ Rv) := by
    unfold CP
    rw [← PW_blocks]
    iintro ⟨⟨Hx, -, Hp⟩, Hw, Hv⟩
    isplitl [Hx]; · iexact Hx
    isplitl [Hp]; · iexact Hp
    isplitl [Hw] <;> iassumption
  unfold layer
  iintro H Hk
  ihave H := start $$ H
  iapply (blk_rule I d l 0 (by decide) hw hv) $$ H
  iintro H
  iapply (blk_rule I d l 1 (by decide) hw hv) $$ H
  iintro H
  iapply (blk_rule I d l 2 (by decide) hw hv) $$ H
  iintro H
  iapply (blk_rule I d l 3 (by decide) hw hv) $$ H
  iintro H
  iapply (blk_rule I d l 4 (by decide) hw hv) $$ H
  iintro H
  iapply (blk_rule I d l 5 (by decide) hw hv) $$ H
  iintro H
  iapply (blk_rule I d l 6 (by decide) hw hv) $$ H
  iintro H
  iapply (blk_rule I d l 7 (by decide) hw hv) $$ H
  iintro H
  iapply Hk
  iapply stop
  iexact H

/-! ### Between the loops -/

theorem own_off (d : Dev nD) : k0_off1 d = ![64 * d.val, 0] := k0_off1_eq d
theorem chunk_off (d : Dev nD) : k0_off4 d = ![64 * (back d 1).val, 0] := by rw [k0_off4_eq, back_val]

theorem chunk_rule (d : Dev nD) (l : ℕ) (f : FVec F S2048x512 .f32) {kk : Prog (TpuEff nD τ sig (Elt F) Λ₀ .tc) PUnit} {Q : PUnit → sProp 𝕄} :
    iprop(PW d (GP I l d) ∗ CB d 0 f) ⊢ iprop(((PW d (GP I l d) ∗ CB d 0 (GC I l d)) -∗ run d kk Q) -∗ run d (chunk d kk) Q) := by
  unfold chunk
  iintro ⟨Hp, Hc⟩ Hk
  iapply (ld_p d (GP I l d) (chunk_off d)) $$ Hp
  iintro Hp
  iapply (ld_c d f (k := 0) rfl) $$ Hc
  iintro Hc
  iapply (st_c d f (k := 0) rfl (fun s => RS I l s d) (by rw [pay_id]; rfl)) $$ Hc
  iintro Hc
  iapply Hk
  isplitl [Hp]; · iexact Hp
  iexact Hc

/-- The layer's last sum is the next layer's own block. -/
theorem next_own (d : Dev nD) (l : ℕ) : k0_pay18 (row64 (GC I l d) 31) = acts I (l + 1) ⟨d.val % 32, Nat.mod_lt _ (by decide)⟩ := by
  rw [pay_id, row64_GC I l d 31 (by decide), acts_succ]
  have e : (⟨d.val % 32, Nat.mod_lt _ (by decide)⟩ : Dev nD) = d := Fin.ext (Nat.mod_eq_of_lt (dev_lt d))
  rw [e]

theorem take_last (d : Dev nD) (f : FVec F S2048x512 .f32) : (CW d f : sProp 𝕄) = iprop(CB d 31 f ∗ bigSep (Finset.range 31) fun k => CB d k f) := by
  rw [CW_blocks]; exact bigSep_range_succ 31 _

theorem carry_rule (d : Dev nD) (l : ℕ) (f : FVec F S2048x512 .f32) {kk : Prog (TpuEff nD τ sig (Elt F) Λ₀ .tc) PUnit} {Q : PUnit → sProp 𝕄} :
    iprop(CW d (GC I l d) ∗ XB d d.val f) ⊢ iprop(((CW d (GC I l d) ∗ XB d d.val (GX I (l + 1))) -∗ run d kk Q) -∗ run d (carry d kk) Q) := by
  unfold carry
  rw [take_last]
  iintro ⟨⟨Hc, Hcs⟩, Hx⟩ Hk
  iapply (ld_c d (GC I l d) (k := 31) rfl) $$ Hc
  iintro Hc
  iapply (ld_x d f (own_off d)) $$ Hx
  iintro Hx
  iapply (st_x d f (own_off d) (fun k => acts I (l + 1) ⟨k % 32, Nat.mod_lt _ (by decide)⟩) (next_own I d l)) $$ Hx
  iintro Hx
  iapply Hk
  isplitr [Hx]
  · isplitl [Hc]; · iexact Hc
    iexact Hcs
  iexact Hx

theorem own_x (d : Dev nD) : k0_pay4 (I.x d) = acts I 0 ⟨d.val % 32, Nat.mod_lt _ (by decide)⟩ := by
  have e : (⟨d.val % 32, Nat.mod_lt _ (by decide)⟩ : Dev nD) = d := Fin.ext (Nat.mod_eq_of_lt (dev_lt d))
  rw [e, acts_zero]
  exact (shapeCast_self _ _).trans (shapeCast_self _ _)

/-! ### The body after the entry signal -/

section Flat

variable (a0 : Memref sig .tc .vmem S64x512 .f32) (h0 : a0.IsWhole) (a1 : Memref sig .tc .vmem S512x1024 .f32) (h1 : a1.IsWhole)
  (a2 : Memref sig .tc .vmem S1024x512 .f32) (h2 : a2.IsWhole) (a3 : Memref sig .tc .vmem S512x1024 .f32) (h3 : a3.IsWhole)
  (a4 : Memref sig .tc .vmem S1024x512 .f32) (h4 : a4.IsWhole) (a5 : Memref sig .tc .vmem S512x1024 .f32) (h5 : a5.IsWhole)
  (a6 : Memref sig .tc .vmem S1024x512 .f32) (h6 : a6.IsWhole) (a7 : Memref sig .tc .vmem S64x512 .f32) (h7 : a7.IsWhole)

theorem flat_rule {R0 R1 R2 R3 R4 R5 R6 : sProp 𝕄} {R7 : FVec F S64x512 .f32 → sProp 𝕄} (d : Dev nD)
    (H0 : Holds d a0 ![0, 0] R0 (I.x d)) (H1 : Holds d a1 ![0, 0] R1 (I.win 0 d)) (H2 : Holds d a2 ![0, 0] R2 (I.wout 0 d))
    (H3 : Holds d a3 ![0, 0] R3 (I.win 1 d)) (H4 : Holds d a4 ![0, 0] R4 (I.wout 1 d))
    (H5 : Holds d a5 ![0, 0] R5 (I.win 2 d)) (H6 : Holds d a6 ![0, 0] R6 (I.wout 2 d))
    (H7 : ∀ f, Holds d a7 ![0, 0] (R7 f) f) (H7' : Takes d a7 ![0, 0] R7)
    (f0 f1 f2 : FVec F S2048x512 .f32) (f3 : FVec F S64x512 .f32) {Q : PUnit → sProp 𝕄} :
    iprop(know I K ∗ core d 0 ∗ XB d d.val f0 ∗ PW d f1 ∗ CW d f2 ∗ bun (nxt d) 0 ∗ R0 ∗ R1 ∗ R2 ∗ R3 ∗ R4 ∗ R5 ∗ R6 ∗ R7 f3)
      ⊢ iprop(((core d 186 ∗ XW d (GX I 2) ∗ PW d (GP I 2 d) ∗ CW d (GC I 2 d) ∗ R0 ∗ R1 ∗ R2 ∗ R3 ∗ R4 ∗ R5 ∗ R6 ∗ R7 (acts I 3 d)) -∗ |={Set.univ}=> Q ⟨⟩)
          -∗ run d (flat a0 h0 a1 h1 a2 h2 a3 h3 a4 h4 a5 h5 a6 h6 a7 h7 d) Q) := by
  unfold flat
  iintro ⟨#HK, Hcore, Hx, Hp, Hc, Hb, A0, A1, A2, A3, A4, A5, A6, A7⟩ Hk
  -- its own block into the gather buffer
  iapply H0 $$ A0
  iintro A0
  iapply (ld_x d f0 (own_off d)) $$ Hx
  iintro Hx
  iapply (st_x d f0 (own_off d) (fun k => acts I 0 ⟨k % 32, Nat.mod_lt _ (by decide)⟩) (own_x I d)) $$ Hx
  iintro Hx
  -- layer 0
  ihave H := (ag_enter I K d 0 (by decide) f2) $$ [Hcore Hx Hc Hb]
  · isplitr; · iexact HK
    isplitl [Hcore]; · iexact Hcore
    isplitl [Hx]; · iexact Hx
    isplitl [Hc] <;> iassumption
  icases H with ⟨HA, Hc⟩
  iapply (loop_rule d k0_t1_ok (by decide) (AG I K d 0) _ (gather1 I K a0 h0 a1 h1 a2 h2 a3 h3 a4 h4 a5 h5 a6 h6 a7 h7 d)) $$ HA
  iintro HA
  ihave H := (ag_leave I K d 0 (by decide)) $$ HA
  icases H with ⟨-, Hcore, Hx, Hb⟩
  iapply (layer_rule I d 0 H1 H2) $$ [Hx Hp A1 A2]
  · isplitl [Hx]; · iexact Hx
    isplitl [Hp]; · iexists f1; iexact Hp
    isplitl [A1] <;> iassumption
  iintro ⟨Hx, Hp, A1, A2⟩
  iapply (chunk_rule I d 0 f2) $$ [Hp Hc]
  · isplitl [Hp] <;> iassumption
  iintro ⟨Hp, Hc⟩
  ihave H := (sc_enter I K d 0 (by decide)) $$ [Hcore Hc Hx Hp Hb]
  · isplitr; · iexact HK
    isplitl [Hcore]; · iexact Hcore
    isplitl [Hc]; · iexact Hc
    isplitl [Hx]; · iexact Hx
    isplitl [Hp] <;> iassumption
  icases H with ⟨HS, Hx⟩
  iapply (loop_rule d k0_t2_ok (by decide) (SC I K d 0) _ (scatter2 I K a0 h0 a1 h1 a2 h2 a3 h3 a4 h4 a5 h5 a6 h6 a7 h7 d 0#32 0#32 0#32 0#32)) $$ HS
  iintro HS
  ihave H := (sc_leave I K d 0) $$ HS
  icases H with ⟨-, Hcore, Hc, Hp, Hb⟩
  iapply (carry_rule I d 0 (GX I 0)) $$ [Hc Hx]
  · isplitl [Hc] <;> iassumption
  iintro ⟨Hc, Hx⟩
  -- layer 1
  ihave H := (ag_enter I K d 1 (by decide) (GC I 0 d)) $$ [Hcore Hx Hc Hb]
  · isplitr; · iexact HK
    isplitl [Hcore]; · iexact Hcore
    isplitl [Hx]; · iexact Hx
    isplitl [Hc] <;> iassumption
  icases H with ⟨HA, Hc⟩
  iapply (loop_rule d k0_t3_ok (by decide) (AG I K d 1) _ (gather3 I K a0 h0 a1 h1 a2 h2 a3 h3 a4 h4 a5 h5 a6 h6 a7 h7 d 0#32 0#32 0#32 0#32)) $$ HA
  iintro HA
  ihave H := (ag_leave I K d 1 (by decide)) $$ HA
  icases H with ⟨-, Hcore, Hx, Hb⟩
  iapply (layer_rule I d 1 H3 H4) $$ [Hx Hp A3 A4]
  · isplitl [Hx]; · iexact Hx
    isplitl [Hp]; · iexists (GP I 0 d); iexact Hp
    isplitl [A3] <;> iassumption
  iintro ⟨Hx, Hp, A3, A4⟩
  iapply (chunk_rule I d 1 (GC I 0 d)) $$ [Hp Hc]
  · isplitl [Hp] <;> iassumption
  iintro ⟨Hp, Hc⟩
  ihave H := (sc_enter I K d 1 (by decide)) $$ [Hcore Hc Hx Hp Hb]
  · isplitr; · iexact HK
    isplitl [Hcore]; · iexact Hcore
    isplitl [Hc]; · iexact Hc
    isplitl [Hx]; · iexact Hx
    isplitl [Hp] <;> iassumption
  icases H with ⟨HS, Hx⟩
  iapply (loop_rule d k0_t4_ok (by decide) (SC I K d 1) _ (scatter4 I K a0 h0 a1 h1 a2 h2 a3 h3 a4 h4 a5 h5 a6 h6 a7 h7 d 0#32 0#32 0#32 z64 z64)) $$ HS
  iintro HS
  ihave H := (sc_leave I K d 1) $$ HS
  icases H with ⟨-, Hcore, Hc, Hp, Hb⟩
  iapply (carry_rule I d 1 (GX I 1)) $$ [Hc Hx]
  · isplitl [Hc] <;> iassumption
  iintro ⟨Hc, Hx⟩
  -- layer 2
  ihave H := (ag_enter I K d 2 (by decide) (GC I 1 d)) $$ [Hcore Hx Hc Hb]
  · isplitr; · iexact HK
    isplitl [Hcore]; · iexact Hcore
    isplitl [Hx]; · iexact Hx
    isplitl [Hc] <;> iassumption
  icases H with ⟨HA, Hc⟩
  iapply (loop_rule d k0_t5_ok (by decide) (AG I K d 2) _ (gather5 I K a0 h0 a1 h1 a2 h2 a3 h3 a4 h4 a5 h5 a6 h6 a7 h7 d 0#32 0#32 0#32 z64 z64)) $$ HA
  iintro HA
  ihave H := (ag_leave I K d 2 (by decide)) $$ HA
  icases H with ⟨-, Hcore, Hx, Hb⟩
  iapply (layer_rule I d 2 H5 H6) $$ [Hx Hp A5 A6]
  · isplitl [Hx]; · iexact Hx
    isplitl [Hp]; · iexists (GP I 1 d); iexact Hp
    isplitl [A5] <;> iassumption
  iintro ⟨Hx, Hp, A5, A6⟩
  iapply (chunk_rule I d 2 (GC I 1 d)) $$ [Hp Hc]
  · isplitl [Hp] <;> iassumption
  iintro ⟨Hp, Hc⟩
  ihave HS := (sc_enter_last I K d) $$ [Hcore Hc Hp Hb]
  · isplitr; · iexact HK
    isplitl [Hcore]; · iexact Hcore
    isplitl [Hc]; · iexact Hc
    isplitl [Hp] <;> iassumption
  iapply (loop_rule d k0_t6_ok (by decide) (SC I K d 2) _ (scatter6 I K a0 h0 a1 h1 a2 h2 a3 h3 a4 h4 a5 h5 a6 h6 a7 h7 d 0#32 0#32 z256)) $$ HS
  iintro HS
  ihave H := (sc_leave I K d 2) $$ HS
  icases H with ⟨-, Hcore, Hc, Hp, -⟩
  -- the finished chunk out
  ihave Hc := (Entails.of_eq (take_last d (GC I 2 d))) $$ Hc
  icases Hc with ⟨Hc, Hcs⟩
  iapply (ld_c d (GC I 2 d) (k := 31) rfl) $$ Hc
  iintro Hc
  iapply (H7 f3) $$ A7
  iintro A7
  iapply (H7' f3 (row64 (GC I 2 d) 31)) $$ A7
  iintro A7
  unfold run
  rw [wp_ret]
  iapply Hk
  isplitl [Hcore]; · iexact Hcore
  isplitl [Hx]; · iexact Hx
  isplitl [Hp]; · iexact Hp
  isplitl [Hc Hcs]
  · rw [take_last]; isplitl [Hc] <;> iassumption
  isplitl [A0]; · iexact A0
  isplitl [A1]; · iexact A1
  isplitl [A2]; · iexact A2
  isplitl [A3]; · iexact A3
  isplitl [A4]; · iexact A4
  isplitl [A5]; · iexact A5
  isplitl [A6]; · iexact A6
  rw [acts_succ, ← row64_GC I 2 d 31 (by decide)]
  iexact A7

end Flat

end Cert.KernelIdealProof

end
-- ==== Proof.IdealWhole.lean ====
/-
The whole body on a device: the entry signal and wait, the layers, and every semaphore cell closed at the end; stated
over the staging buffers as the pipeline hands them over.
-/
module

public import proofs.«01_k».proof.Proof.IdealBody
public import Idealize.SL.BI.BigOpNat
public import Idealize.ShloMosaic.Lib.Pipeline.Value

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (I : Inp F) (K : Dev nD × Option (Fin 128) → ℕ)

/-! ### The staging buffers -/

/-- A buffer of device `d`, held whole at `f`. -/
abbrev at_ (d : Dev nD) (b : Ref sig .tc) (f : b.ty.Contents (Elt F)) : sProp 𝕄 := ((d : Thread nD τ).loc b) ↦{fullShare} f

theorem holds_of (d : Dev nD) {s : Shape} (m : Memref sig .tc .vmem s .f32) {off : Fin s.rank → ℕ} (g : Buf (Elt F) (m.view.loc (d : Thread nD τ))) (f : Vec F s .f32)
    (h : ∀ inb, m.view.readAt (Elt F) (Rect.unit (s := s) off s.size inb).toLoadRect g = f) :
    Holds d m off ((m.view.loc (d : Thread nD τ)) ↦{fullShare} g) f := fun {inb hl α Q kk} => by
  have e := wp_load (Γ := .empty) (defs := defs₀ (F := F)) Variants.none (d : Thread nD τ) none Set.univ (m := m)
    (r := (Rect.unit (s := s) off s.size inb).toLoadRect) (S := Finset.univ) (q := fullShare) (f := g) (hl := hl) (k := kk) (Q := Q) (Finset.subset_univ _)
  rw [h inb] at e
  exact e

theorem takes_of (d : Dev nD) {s : Shape} (m : Memref sig .tc .vmem s .f32) {off : Fin s.rank → ℕ} (g : Vec F s .f32 → Buf (Elt F) (m.view.loc (d : Thread nD τ)))
    (h : ∀ inb f w, (m.access (Rect.unit (s := s) off s.size inb)).write (Elt F) (g f) w Finset.univ = g w) :
    Takes d m off (fun f => ((m.view.loc (d : Thread nD τ)) ↦{fullShare} g f : sProp 𝕄)) := fun f w {inb hs hm α Q kk} => by
  have e := wp_store (Γ := .empty) (defs := defs₀ (F := F)) Variants.none (d : Thread nD τ) none Set.univ (m := m)
    (r := Rect.unit (s := s) off s.size inb) (w := w) (Mk := Finset.univ) (hx := hs) (hm := hm) (S := Finset.univ) (f := g f) (k := kk) (Q := Q) (Finset.subset_univ _)
  rw [h inb f w] at e
  exact e

theorem off00 : (![0, 0] : Fin 2 → ℕ) = fun _ => 0 := funext fun a => by fin_cases a <;> rfl

/-! ### The entry signal's device -/

theorem dev1_eq (d : Dev nD) (h : k0_dev1 d < nD) : (⟨k0_dev1 d, h⟩ : Dev nD) = prv d := Fin.ext ((k0_dev1_eq d).trans (back_val d 1).symm)

/-! ### Closing the cells -/

/-- Each of a family turned, with a persistent fact at hand. -/
theorem each_with {J : Type} [DecidableEq J] (S : Finset J) (R : sProp 𝕄) [BI.Persistent R] {Φ Ψ : J → sProp 𝕄}
    (h : ∀ j ∈ S, iprop(R ∗ Φ j) ⊢ Ψ j) : iprop(R ∗ bigSep S Φ) ⊢ bigSep S Ψ := by
  have h' : (bigSep S fun j => iprop(R ∗ Φ j)) ⊢ bigSep S Ψ := bigSep_mono h
  rw [bigSep_sep'] at h'
  iintro ⟨#HR, HΦ⟩
  iapply h'
  isplitr
  · iapply (BI.bigSep_of_persistent S R); iexact HR
  iexact HΦ

theorem close_one (d : Dev nD) (k : Fin 128) :
    iprop(invs I K ∗ posn (cell d (some k)) (rnd k.val 186)) ⊢ iprop(|={Set.univ}=> semVal (cell d (some k)) 0) := by
  unfold posn
  iintro ⟨#HI, Hat, -⟩
  imod (Rounds.cell_close ER (Rd I) (Set.mem_univ (K (d, some k))) (fun h => h) (R := rnd k.val 186) (duties_end I d k)) $$ [Hat] with Hz
  · isplitr; · iapply (inv_at I K d (some k)); iexact HI
    iexact Hat
  imodintro
  iexact Hz

theorem close_own (d : Dev nD) :
    iprop(invs I K ∗ pos d 186) ⊢ iprop(|={Set.univ}=> bigSep Finset.univ fun k : Fin 128 => semVal (cell d (some k)) 0) := by
  unfold pos
  exact (each_with Finset.univ (invs I K) fun k _ => close_one I K d k).trans (bigSep_fupd _ _)

/-! ### The body -/

/-- What the launch leaves device `d`: its positions, the tokens it spends, and the mark its entry signal needs. -/
def ghost (d : Dev nD) : sProp 𝕄 :=
  iprop(invs I K ∗ pos d 0 ∗ atPos ER (cB d) 0 ∅ 0 ∗ reached ER (cB (prv d)) 0 ∗ dutyTok ER (cB (prv d)) 0 ()
    ∗ bigSep (Finset.Ico 0 186) fun t => iprop(dutyTok ER (cS d t) (t / 62) () ∗ dutyTok ER (cR (nxt d) t) (t / 62) ()))
/-- The credits it starts with. -/
def credits (d : Dev nD) : sProp 𝕄 :=
  iprop(cred (tallyAt (cB d) 1 1) ∗ bigSep (Finset.Ico 0 186) fun t => cred (tallyAt (cR d t) (t + 2) N))
def scratch (d : Dev nD) : sProp 𝕄 := iprop((∃ f, XW d f) ∗ (∃ f, PW d f) ∗ (∃ f, CW d f))
def start (d : Dev nD) : sProp 𝕄 := iprop((∃ K, ghost I K d) ∗ credits d ∗ levAts L lv)
def Φ₀ (d : Dev nD) : sProp 𝕄 := iprop(start I d ∗ scratch d)
/-- After the body: every cell closed. -/
def Φ₁ (d : Dev nD) : sProp 𝕄 := iprop((bigSep Finset.univ fun k : Fin 128 => semVal (cell d (some k)) 0) ∗ semVal (cB d) 0 ∗ scratch d)

/-- The seven inputs as staged, and the output. -/
def staged (d : Dev nD) (f : FVec F S64x512 .f32) : sProp 𝕄 :=
  iprop(at_ d cc0_stg0_0 (I.x d) ∗ at_ d cc0_stg1_0 (I.win 0 d) ∗ at_ d cc0_stg2_0 (I.wout 0 d) ∗ at_ d cc0_stg3_0 (I.win 1 d) ∗ at_ d cc0_stg4_0 (I.wout 1 d) ∗ at_ d cc0_stg5_0 (I.win 2 d) ∗ at_ d cc0_stg6_0 (I.wout 2 d) ∗ at_ d cc0_stg7_0 f)

theorem bar_pay (d : Dev nD) : (Rd I).payload ((prv d : Thread nD τ), SemLoc.reg barS) 0 () = bun d 0 :=
  (payload_bar I (prv d) ()).trans (by rw [nxt_prv])
theorem bar_rest (d : Dev nD) : bigSep ((Rd I).duties ((d : Thread nD τ), SemLoc.reg barS) 0 \ ∅)
    (fun x => (Rd I).payload ((d : Thread nD τ), SemLoc.reg barS) 0 x) = bun (nxt d) 0 :=
  (rest_one I (cB d) 0 (duties_bar I d)).trans (payload_bar I d ())
theorem bar_mem (d : Dev nD) : () ∈ (Rd I).duties (cB d) 0 := by rw [duties_bar]; exact Finset.mem_singleton_self _

set_option maxHeartbeats 1600000 in
theorem sound_body (d : Dev nD) (f3 : FVec F S64x512 .f32) (W : Waits sig ℕ) (Kt : PUnit → sProp 𝕄) :
    iprop((ghost I K d ∗ credits d ∗ levAts L lv ∗ scratch d) ∗ owes (d : Thread nD τ) (owed₀ d) W ∗ staged I d f3)
      ⊢ iprop(((Φ₁ d ∗ (∃ W', owes (d : Thread nD τ) 0 W') ∗ staged I d (acts I 3 d)) -∗ Kt ⟨⟩)
        -∗ run d (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _) (Memref.whole cc0_stg6_0) (Memref.isWhole_whole _) (Memref.whole cc0_stg7_0) (Memref.isWhole_whole _)
      xM (Memref.isWhole_whole _) pM (Memref.isWhole_whole _) cM (Memref.isWhole_whole _) cc0_scratch3 cc0_scratch4 cc0_scratch5 cc0_scratch6) Kt) := by
  rw [body_flat]
  simp only [semSignalWord, semWaitWord, Prog.lift, Prog.bind_op, Prog.bind_ret, Prog.pure_eq_ret, wp_deviceId, dev1_eq]
  unfold ghost credits scratch staged
  iintro ⟨⟨⟨#HI, Hpos, HatB, #HrB, HtB, Htoks⟩, ⟨HcB, Hcs⟩, #Hlev, ⟨%f0, Hx⟩, ⟨%f1, Hp⟩, ⟨%f2, Hc⟩⟩, HO, A0, A1, A2, A3, A4, A5, A6, A7⟩ Hk
  -- the entry signal to the device before, with this device's gather blocks
  ihave H := (bun_x d 0 0 (by decide) rfl f0) $$ [Hpos Hx]
  · isplitl [Hpos] <;> iassumption
  icases H with ⟨Hpos, Hx, Hb⟩
  iapply (Rounds.wp_signal Variants.none ER (Rd I) (d : Thread nD τ) none (dst := (prv d : Thread nD τ)) (κ := K (prv d, none))
      (d := ()) (bar_mem I (prv d)) ((amount_bar I (prv d) 0 ()).trans (by decide)) 1 (owed d 0) rfl) $$ [HO HtB Hb]
  · isplitr; · iapply (inv_at I K (prv d) none); iexact HI
    isplitl [HO]; · iexact HO
    isplitl [HtB]; · iexact HtB
    isplitl [Hb]
    · iapply (Entails.of_eq (bar_pay I d).symm); iexact Hb
    iexact HrB
  iintro HO
  -- the wait on its own barrier semaphore
  iapply (Rounds.wp_wait_rest_token Variants.none ER (Rd I) (d : Thread nD τ) none (κ := K (d, none))
      (wpE_semWait_eq Variants.none (d : Thread nD τ) none Set.univ) (Set.mem_univ _) 1 (O := owed d 0) (W := W) (R := 0) (m := 0) (T := ∅)
      (by rw [Nat.zero_add]; exact (expect_one I (cB d) 0 (duties_bar I d)).symm)) $$ [HcB HO HatB]
  · isplitr; · iapply (inv_at I K d none); iexact HI
    isplitl [HcB]; · iexact HcB
    isplitl [HO]; · iexact HO
    isplitr; · iapply (may_wait_owed d _ 1 0 (by decide) (by decide)); iexact Hlev
    iexact HatB
  iintro ⟨HO, HatB, -, Hpay⟩
  ihave Hb := (Entails.of_eq (bar_rest I d)) $$ Hpay
  -- the layers
  iapply (flat_rule I K (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_stg6_0) (Memref.isWhole_whole _) (Memref.whole cc0_stg7_0) (Memref.isWhole_whole _)
      (R0 := at_ d cc0_stg0_0 (I.x d)) (R1 := at_ d cc0_stg1_0 (I.win 0 d)) (R2 := at_ d cc0_stg2_0 (I.wout 0 d)) (R3 := at_ d cc0_stg3_0 (I.win 1 d))
      (R4 := at_ d cc0_stg4_0 (I.wout 1 d)) (R5 := at_ d cc0_stg5_0 (I.win 2 d)) (R6 := at_ d cc0_stg6_0 (I.wout 2 d)) (R7 := fun f => at_ d cc0_stg7_0 f)
      d (holds_of d (Memref.whole cc0_stg0_0) _ _ fun inb => Memref.readAt_unit_zero (Elt F) cc0_stg0_0 off00 inb _) (holds_of d (Memref.whole cc0_stg1_0) _ _ fun inb => Memref.readAt_unit_zero (Elt F) cc0_stg1_0 off00 inb _) (holds_of d (Memref.whole cc0_stg2_0) _ _ fun inb => Memref.readAt_unit_zero (Elt F) cc0_stg2_0 off00 inb _) (holds_of d (Memref.whole cc0_stg3_0) _ _ fun inb => Memref.readAt_unit_zero (Elt F) cc0_stg3_0 off00 inb _)
      (holds_of d (Memref.whole cc0_stg4_0) _ _ fun inb => Memref.readAt_unit_zero (Elt F) cc0_stg4_0 off00 inb _) (holds_of d (Memref.whole cc0_stg5_0) _ _ fun inb => Memref.readAt_unit_zero (Elt F) cc0_stg5_0 off00 inb _) (holds_of d (Memref.whole cc0_stg6_0) _ _ fun inb => Memref.readAt_unit_zero (Elt F) cc0_stg6_0 off00 inb _)
      (fun f => holds_of d (Memref.whole cc0_stg7_0) _ _ fun inb => Memref.readAt_unit_zero (Elt F) cc0_stg7_0 off00 inb _)
      (takes_of d (Memref.whole cc0_stg7_0) (fun f => f) fun inb f w => Memref.write_access_unit_zero_univ (Elt F) cc0_stg7_0 off00 inb f w) f0 f1 f2 f3 (Q := Kt))
    $$ [Hpos Hx Hp Hc Hb Hcs Htoks HO A0 A1 A2 A3 A4 A5 A6 A7]
  · isplitr
    · unfold know; isplitr; · iexact HI
      iexact Hlev
    isplitl [Hpos Hcs Htoks HO]
    · unfold core
      isplitl [Hpos]; · iexact Hpos
      isplitl [Hcs Htoks]
      · have e : iprop((bigSep (Finset.Ico 0 186) fun t => iprop(dutyTok ER (cS d t) (t / 62) () ∗ dutyTok ER (cR (nxt d) t) (t / 62) ()))
            ∗ bigSep (Finset.Ico 0 186) fun t => (cred (tallyAt (cR d t) (t + 2) N) : sProp 𝕄)) ⊢ kits d 0 := by
          rw [← bigSep_sep']
          exact bigSep_mono fun t _ => by
            show (iprop((dutyTok ER (cS d t) (t / 62) () ∗ dutyTok ER (cR (nxt d) t) (t / 62) ()) ∗ cred (tallyAt (cR d t) (t + 2) N)) : sProp 𝕄) ⊢ kit d t
            unfold kit
            iintro ⟨⟨H1, H2⟩, H3⟩
            isplitl [H1]; · iexact H1
            isplitl [H2] <;> iassumption
        iapply e
        isplitl [Htoks] <;> iassumption
      iexists _; iexact HO
    isplitl [Hx]; · iexact Hx
    isplitl [Hp]; · iexact Hp
    isplitl [Hc]; · iexact Hc
    isplitl [Hb]; · iexact Hb
    isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  unfold core
  iintro ⟨⟨Hpos, -, ⟨%W', HO⟩⟩, Hx, Hp, Hc, A0, A1, A2, A3, A4, A5, A6, A7⟩
  rw [owed_end]
  -- every cell closed
  imod (close_own I K d) $$ [Hpos] with Hz
  · isplitr; · iexact HI
    iexact Hpos
  imod (Rounds.cell_close ER (Rd I) (Set.mem_univ (K (d, none))) (fun h => h) (R := 0 + 1) (duties_bar_end I d)) $$ [HatB] with HzB
  · isplitr; · iapply (inv_at I K d none); iexact HI
    iexact HatB
  imodintro
  iapply Hk
  isplitl [Hx Hp Hc Hz HzB]
  · unfold Φ₁ scratch
    isplitl [Hz]; · iexact Hz
    isplitl [HzB]; · iexact HzB
    isplitl [Hx]; · iexists _; iexact Hx
    isplitl [Hp]; · iexists _; iexact Hp
    iexists _; iexact Hc
  isplitl [HO]; · iexists _; iexact HO
  isplitl [A0]; · iexact A0
  isplitl [A1]; · iexact A1
  isplitl [A2]; · iexact A2
  isplitl [A3]; · iexact A3
  isplitl [A4]; · iexact A4
  isplitl [A5]; · iexact A5
  isplitl [A6]; · iexact A6
  iexact A7

end Cert.KernelIdealProof

end
-- ==== Proof.IdealData.lean ====
/-
The launch: the pipeline's data at this kernel, the body obligation, and what the launch deals each device.
-/
module

public import proofs.«01_k».proof.Proof.IdealWhole
public import Idealize.SL.BI.BigOpNat
public import Idealize.ShloMosaic.Lib.Pipeline.Value

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ### The pipeline's data -/

def st₀ : MemSt nD τ sig (Elt F) := ⟨m, fun _ => 0, ρ⟩

/-- The inputs as the windows stage them. -/
def inp : Inp F where
  x c := (win0_0.blk t0_0).view.read (Elt F) (m ((c : Thread nD τ).loc main_arg0))
  win l c := match l with
    | 0 => (win0_1.blk t0_0).view.read (Elt F) (m ((c : Thread nD τ).loc main_arg1))
    | 1 => (win0_3.blk t0_0).view.read (Elt F) (m ((c : Thread nD τ).loc main_arg2))
    | _ => (win0_5.blk t0_0).view.read (Elt F) (m ((c : Thread nD τ).loc main_arg3))
  wout l c := match l with
    | 0 => (win0_2.blk t0_0).view.read (Elt F) (m ((c : Thread nD τ).loc main_arg4))
    | 1 => (win0_4.blk t0_0).view.read (Elt F) (m ((c : Thread nD τ).loc main_arg5))
    | _ => (win0_6.blk t0_0).view.read (Elt F) (m ((c : Thread nD τ).loc main_arg6))

def dats (_ : Fin 1) (c : Dev nD) : Dat τ (Elt F) ℕ ℕ UU ℕ cfg0 c where
  A w := (st₀ m ρ).mem ((cfg0.win w).arr.view.loc (c : Thread nD τ))
  after w _ := match w with
    | ⟨0, _⟩ => (inp m).x c
    | ⟨1, _⟩ => (inp m).win 0 c
    | ⟨2, _⟩ => (inp m).wout 0 c
    | ⟨3, _⟩ => (inp m).win 1 c
    | ⟨4, _⟩ => (inp m).wout 1 c
    | ⟨5, _⟩ => (inp m).win 2 c
    | ⟨6, _⟩ => (inp m).wout 2 c
    | ⟨7, _⟩ => acts (inp m) 3 c
  Φ t := match t with
    | ⟨0, _⟩ => Φ₀ (inp m) c
    | ⟨_ + 1, _⟩ => Φ₁ c
  q _ := fullShare
  owed t := match t with
    | ⟨0, _⟩ => owed₀ c
    | ⟨_ + 1, _⟩ => 0

theorem share_eq (c : Dev nD) (w : Fin cfg0.W) : (dats m ρ 0 c).share w = fullShare := by unfold Dat.share; split <;> rfl

/-! ### The body obligation -/

/-- A whole buffer at the contents `X`, as the pipeline hands it over. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owned_whole (c : Dev nD) (b : Ref sig .tc) (X : b.ty.Contents (Elt F)) :
    (owns (Ix := ℕ) (Name := ℕ) (U := UU) (Lvl := ℕ) (c : Thread nD τ) (Memref.whole b) fullShare X : sProp 𝕄) = stg c b X := by
  unfold owns; simp only [Memref.view_whole, View.read_whole, View.set_whole]

theorem stg_in (c : Dev nD) (b : Ref sig .tc) {α : Type} {X : α → b.ty.Contents (Elt F)} {Y : b.ty.Contents (Elt F)} (h : ∀ e, X e = Y) :
    iprop(∃ e, stg c b (X e)) ⊢ (at_ c b Y : sProp 𝕄) := by
  iintro ⟨%e, %f, %hf, H⟩
  have : f = Y := hf.trans (h e)
  subst this
  iexact H
theorem stg_out (c : Dev nD) (b : Ref sig .tc) {X : b.ty.Contents (Elt F)} : (at_ c b X : sProp 𝕄) ⊢ stg c b X := by
  iintro H
  iexists X
  isplitr; · (ipureintro; rfl)
  iexact H

def bodyPre (c : Dev nD) : sProp 𝕄 :=
  iprop(Φ₀ (inp m) c ∗ (dats m ρ 0 c).owesAt 0 (Fin.castSucc t0_0)
    ∗ (∃ e, stg c cc0_stg0_0 ((dats m ρ 0 c).before (0 : Fin 8) t0_0 e))
    ∗ (∃ e, stg c cc0_stg1_0 ((dats m ρ 0 c).before (1 : Fin 8) t0_0 e))
    ∗ (∃ e, stg c cc0_stg2_0 ((dats m ρ 0 c).before (2 : Fin 8) t0_0 e))
    ∗ (∃ e, stg c cc0_stg3_0 ((dats m ρ 0 c).before (3 : Fin 8) t0_0 e))
    ∗ (∃ e, stg c cc0_stg4_0 ((dats m ρ 0 c).before (4 : Fin 8) t0_0 e))
    ∗ (∃ e, stg c cc0_stg5_0 ((dats m ρ 0 c).before (5 : Fin 8) t0_0 e))
    ∗ (∃ e, stg c cc0_stg6_0 ((dats m ρ 0 c).before (6 : Fin 8) t0_0 e))
    ∗ (∃ e, stg c cc0_stg7_0 ((dats m ρ 0 c).before (7 : Fin 8) t0_0 e)))
def bodyPost (c : Dev nD) : sProp 𝕄 :=
  iprop(Φ₁ c ∗ (dats m ρ 0 c).owesAt 0 (Fin.succ t0_0)
    ∗ stg c cc0_stg0_0 ((inp m).x c)
    ∗ stg c cc0_stg1_0 ((inp m).win 0 c)
    ∗ stg c cc0_stg2_0 ((inp m).wout 0 c)
    ∗ stg c cc0_stg3_0 ((inp m).win 1 c)
    ∗ stg c cc0_stg4_0 ((inp m).wout 1 c)
    ∗ stg c cc0_stg5_0 ((inp m).win 2 c)
    ∗ stg c cc0_stg6_0 ((inp m).wout 2 c)
    ∗ stg c cc0_stg7_0 (acts (inp m) 3 c))

set_option maxHeartbeats 1600000 in
theorem body_run (c : Dev nD) : bodyPre m ρ c ⊢ run c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _) (Memref.whole cc0_stg6_0) (Memref.isWhole_whole _) (Memref.whole cc0_stg7_0) (Memref.isWhole_whole _)
      xM (Memref.isWhole_whole _) pM (Memref.isWhole_whole _) cM (Memref.isWhole_whole _) cc0_scratch3 cc0_scratch4 cc0_scratch5 cc0_scratch6) (fun _ => bodyPost m ρ c) := by
  unfold bodyPre Φ₀ start Dat.owesAt Pipeline.owesWithin
  rw [show (dats m ρ 0 c).owed (Fin.castSucc t0_0) = owed₀ c from rfl]
  iintro ⟨⟨⟨⟨%K, Hg⟩, Hcr, Hlev⟩, Hscr⟩, ⟨%W, %hW, HO⟩, A0, A1, A2, A3, A4, A5, A6, ⟨%e7, %f7, %hf7, A7⟩⟩
  iapply (sound_body (inp m) K c f7 W fun _ => bodyPost m ρ c) $$ [Hg Hcr Hlev Hscr HO A0 A1 A2 A3 A4 A5 A6 A7]
  · isplitl [Hg Hcr Hlev Hscr]
    · isplitl [Hg]; · iexact Hg
      isplitl [Hcr]; · iexact Hcr
      isplitl [Hlev] <;> iassumption
    isplitl [HO]; · iexact HO
    unfold staged
    isplitl [A0]; · iapply (stg_in c cc0_stg0_0 (X := (dats m ρ 0 c).before (0 : Fin 8) t0_0) fun e => by unfold Dat.before; rw [if_pos (fetch0_0 t0_0)]; rfl); iexact A0
    isplitl [A1]; · iapply (stg_in c cc0_stg1_0 (X := (dats m ρ 0 c).before (1 : Fin 8) t0_0) fun e => by unfold Dat.before; rw [if_pos (fetch0_1 t0_0)]; rfl); iexact A1
    isplitl [A2]; · iapply (stg_in c cc0_stg2_0 (X := (dats m ρ 0 c).before (2 : Fin 8) t0_0) fun e => by unfold Dat.before; rw [if_pos (fetch0_2 t0_0)]; rfl); iexact A2
    isplitl [A3]; · iapply (stg_in c cc0_stg3_0 (X := (dats m ρ 0 c).before (3 : Fin 8) t0_0) fun e => by unfold Dat.before; rw [if_pos (fetch0_3 t0_0)]; rfl); iexact A3
    isplitl [A4]; · iapply (stg_in c cc0_stg4_0 (X := (dats m ρ 0 c).before (4 : Fin 8) t0_0) fun e => by unfold Dat.before; rw [if_pos (fetch0_4 t0_0)]; rfl); iexact A4
    isplitl [A5]; · iapply (stg_in c cc0_stg5_0 (X := (dats m ρ 0 c).before (5 : Fin 8) t0_0) fun e => by unfold Dat.before; rw [if_pos (fetch0_5 t0_0)]; rfl); iexact A5
    isplitl [A6]; · iapply (stg_in c cc0_stg6_0 (X := (dats m ρ 0 c).before (6 : Fin 8) t0_0) fun e => by unfold Dat.before; rw [if_pos (fetch0_6 t0_0)]; rfl); iexact A6
    iexact A7
  unfold bodyPost staged Dat.owesAt Pipeline.owesWithin
  rw [show (dats m ρ 0 c).owed (Fin.succ t0_0) = 0 from rfl]
  iintro ⟨HΦ, ⟨%W', HO⟩, A0, A1, A2, A3, A4, A5, A6, A7⟩
  isplitl [HΦ]; · iexact HΦ
  isplitl [HO]
  · iexists W'
    isplitr; · ipureintro; exact fun _ _ => Or.inl trivial
    iexact HO
  isplitl [A0]; · iapply (stg_out c cc0_stg0_0); iexact A0
  isplitl [A1]; · iapply (stg_out c cc0_stg1_0); iexact A1
  isplitl [A2]; · iapply (stg_out c cc0_stg2_0); iexact A2
  isplitl [A3]; · iapply (stg_out c cc0_stg3_0); iexact A3
  isplitl [A4]; · iapply (stg_out c cc0_stg4_0); iexact A4
  isplitl [A5]; · iapply (stg_out c cc0_stg5_0); iexact A5
  isplitl [A6]; · iapply (stg_out c cc0_stg6_0); iexact A6
  iapply (stg_out c cc0_stg7_0); iexact A7

theorem body_obligation (c : Dev nD) : BodyObligation (dats (F := F) m ρ 0 c) (defs₀ (F := F)) Variants.none 0 Set.univ := fun t => by
  rw [show t = t0_0 from fin_N0 t, show (Finset.univ : Finset (Fin cfg0.W)) = (Finset.univ : Finset (Fin 8)) from rfl, bigSep_W0, bigSep_W0]
  simp only [owned_whole]
  exact body_run m ρ c

end Cert.KernelIdealProof

end
-- ==== Proof.IdealLaunch.lean ====
/-
The launch run: the cells funded and dealt round the ring, and @main's run on the whole mesh with what it leaves.
-/
module

public import proofs.«01_k».proof.Proof.IdealData
public import Idealize.SL.BI.BigOpNat
public import Idealize.ShloMosaic.Lib.Pipeline.Value
public import Idealize.ShloMosaic.Lib.Ring
public import Idealize.ShloMosaic.Lib.Pipeline.CollectiveSegs

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ### The cells and tokens minted -/

theorem osem_inj : Function.Injective osem := fun a b h => by
  have h1 := congrArg Fin.val (SemLoc.dma.inj h)
  have h2 : 8 + a.val = 8 + b.val := h1
  exact Fin.ext (by omega)
theorem csem_inj : Function.Injective csem := fun a b h => by
  cases a with
  | none => cases b with
    | none => rfl
    | some b => exact absurd h (fun h => by cases h)
  | some a => cases b with
    | none => exact absurd h (fun h => by cases h)
    | some b => exact congrArg some (osem_inj h)
theorem cell_dev {c c' : Dev nD} {o o' : Option (Fin 128)} (h : cell c o = cell c' o') : c = c' :=
  congrArg (fun g : GSem nD τ sig => g.1.1) h
theorem cell_sem {c c' : Dev nD} {o o' : Option (Fin 128)} (h : cell c o = cell c' o') : o = o' := csem_inj (congrArg Prod.snd h)

def kcell (x : Dev nD × Option (Fin 128)) : GSem nD τ sig := cell x.1 x.2
theorem kcell_inj : Function.Injective kcell := fun a b h => Prod.ext (cell_dev h) (cell_sem h)
def allCells : Finset (GSem nD τ sig) := Finset.univ.map ⟨kcell, kcell_inj⟩

/-- The semaphore and the round of a token: the barrier's, or hop `t`'s at the sender or at the receiver. -/
def tokAt : Option (Fin 186 × Bool) → Option (Fin 128) × ℕ
  | none => (none, 0)
  | some (t, false) => (some (kS t.val), t.val / 62)
  | some (t, true) => (some (kR t.val), t.val / 62)
theorem kS_val (t : ℕ) : (kS t).val = 64 * (t % 62 / 31) + t % 31 := rfl
theorem kR_val (t : ℕ) : (kR t).val = 64 * (t % 62 / 31) + t % 31 + 32 := rfl
theorem tokAt_inj : Function.Injective tokAt := fun a b h => by
  have h1 := congrArg Prod.fst h
  have h2 := congrArg Prod.snd h
  rcases a with _ | ⟨t, _ | _⟩ <;> rcases b with _ | ⟨u, _ | _⟩ <;> simp only [tokAt] at h1 h2
  · rfl
  · cases h1
  · cases h1
  · cases h1
  · have h3 := congrArg Fin.val (Option.some.inj h1)
    rw [kS_val, kS_val] at h3
    have : t = u := Fin.ext (by omega)
    rw [this]
  · have h3 := congrArg Fin.val (Option.some.inj h1)
    rw [kS_val, kR_val] at h3
    omega
  · cases h1
  · have h3 := congrArg Fin.val (Option.some.inj h1)
    rw [kR_val, kS_val] at h3
    omega
  · have h3 := congrArg Fin.val (Option.some.inj h1)
    rw [kR_val, kR_val] at h3
    have : t = u := Fin.ext (by omega)
    rw [this]

def tokOf (x : Dev nD × Option (Fin 186 × Bool)) : GSem nD τ sig × ℕ × Unit := (cell x.1 (tokAt x.2).1, (tokAt x.2).2, ())
theorem tokOf_inj : Function.Injective tokOf := fun a b h => by
  have h1 : cell a.1 (tokAt a.2).1 = cell b.1 (tokAt b.2).1 := congrArg Prod.fst h
  have h2 : (tokAt a.2).2 = (tokAt b.2).2 := congrArg (fun x : GSem nD τ sig × ℕ × Unit => x.2.1) h
  exact Prod.ext (cell_dev h1) (tokAt_inj (Prod.ext (cell_sem h1) h2))
def allToks : Finset (GSem nD τ sig × ℕ × Unit) := Finset.univ.map ⟨tokOf, tokOf_inj⟩

def u₀ : UU := (initOf (Pipeline.cells cfgs cellOf_inj) (Pipeline.launchToks cfgs cellOf_inj), initOf allCells allToks)

/-! ### What is dealt -/

theorem bigSep_opt {α : Type} [Fintype α] [DecidableEq α] (Φ : Option α → sProp 𝕄) :
    bigSep Finset.univ Φ = iprop(Φ none ∗ bigSep Finset.univ fun a => Φ (some a)) := by
  rw [bigSep_univ_at Φ none]
  have e : (Finset.univ : Finset (Option α)).erase none = Finset.univ.map Function.Embedding.some := by
    ext a; cases a <;> simp
  rw [e, bigSep_map]
  rfl
theorem bigSep_two (Φ : Bool → sProp 𝕄) : bigSep Finset.univ Φ = iprop(Φ false ∗ Φ true) :=
  bigSep_univ_eq_bigSepL [false, true] (by decide) (by decide) Φ
theorem bigSep_hops (Φ : ℕ → sProp 𝕄) : bigSep Finset.univ (fun t : Fin 186 => Φ t.val) = bigSep (Finset.Ico 0 186) Φ := by
  rw [← Finset.range_eq_Ico]
  exact (Ring.bigSep_fin_eq_range 186 (fun t : Fin 186 => Φ t.val) Φ fun _ _ => rfl)

/-- The tokens of device `c`'s own cells. -/
def toks (c : Dev nD) : sProp 𝕄 :=
  iprop(dutyTok ER (cB c) 0 () ∗ (bigSep (Finset.Ico 0 186) fun t => dutyTok ER (cS c t) (t / 62) ())
    ∗ bigSep (Finset.Ico 0 186) fun t => dutyTok ER (cR c t) (t / 62) ())

def G (c : Dev nD) : sProp 𝕄 :=
  iprop((bigSep Finset.univ fun o : Option (Fin 128) => roundState ER (Rd (inp m)) (cell c o) 0)
    ∗ (bigSep Finset.univ fun o : Option (Fin 128) => posn (cell c o) 0) ∗ toks c)
def G' (c : Dev nD) : sProp 𝕄 := iprop(∃ K, ghost (inp m) K c)

theorem toks_eq (c : Dev nD) : (bigSep Finset.univ fun o : Option (Fin 186 × Bool) => (dutyTok ER (cell c (tokAt o).1) (tokAt o).2 () : sProp 𝕄)) = toks c := by
  rw [bigSep_opt, bigSep_univ_prod]
  have e : (bigSep Finset.univ fun t : Fin 186 => bigSep Finset.univ fun b : Bool => (dutyTok ER (cell c (tokAt (some (t, b))).1) (tokAt (some (t, b))).2 () : sProp 𝕄))
      = bigSep Finset.univ fun t : Fin 186 => iprop(dutyTok ER (cS c t.val) (t.val / 62) () ∗ dutyTok ER (cR c t.val) (t.val / 62) ()) :=
    bigSep_congr fun t _ => bigSep_two _
  rw [e, bigSep_sep', bigSep_hops (fun t => dutyTok ER (cS c t) (t / 62) ()), bigSep_hops (fun t => dutyTok ER (cR c t) (t / 62) ())]
  rfl

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun o : Option (Fin 128) => Φ (cell c o) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (Rd (inp m)) allCells allToks) $$ HX with ⟨Hst, Hr, Hat, Htok⟩
  imodintro
  ihave Hst := (Entails.of_eq (hX fun g => roundState ER (Rd (inp m)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G posn; simp only [bigSep_sep']
  isplitl [Hst]; · iexact Hst
  isplitl [Hat Hr]
  · isplitl [Hat] <;> iassumption
  iexact Htok

/-! ### The global step -/

theorem ownSemFacts : Pipeline.OwnSemFacts cfg0.spec osem := by decide +kernel

theorem unscoped_eq (c : Dev nD) : (unscopedSems0 c : sProp 𝕄) = semVal (cB c) 0 := by
  unfold unscopedSems0; rw [bigSep_eq_bigSepL_of_eq [SemLoc.reg barS] (by decide +kernel) (by decide +kernel)]; rfl

theorem sems_eq (c : Dev nD) :
    iprop(Pipeline.ownSems0 (Ix := ℕ) (Name := ℕ) (U := UU) (Lvl := ℕ) (Val := Elt F) (τ := τ) osem c ∗ unscopedSems0 c)
      ⊢ (bigSep Finset.univ fun o : Option (Fin 128) => semVal (cell c o) 0 : sProp 𝕄) := by
  rw [unscoped_eq, bigSep_opt]
  unfold Pipeline.ownSems0
  iintro ⟨HS, HB⟩
  isplitl [HB]; · iexact HB
  iexact HS

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun o => iprop(∃ κ : ℕ, cellInv ER (Rd (inp m)) κ (cell c o)))
          ∗ (bigSep Finset.univ fun o : Option (Fin 128) => posn (cell c o) 0) ∗ toks c) := by
  have ha : iprop((bigSep Finset.univ fun o : Option (Fin 128) => semVal (cell c o) 0) ∗ bigSep Finset.univ fun o : Option (Fin 128) => roundState ER (Rd (inp m)) (cell c o) 0)
      ⊢ (|={Set.univ}=> bigSep Finset.univ fun o => iprop(∃ κ : ℕ, cellInv ER (Rd (inp m)) κ (cell c o)) : sProp 𝕄) := by
    rw [← bigSep_sep']
    exact (bigSep_mono fun o _ => (Rounds.body_intro ER (Rd (inp m)) (cell c o)).trans inv_alloc).trans (bigSep_fupd _ _)
  unfold G
  iintro ⟨Hos, Hus, Hst, Hat, Htok⟩
  ihave Hv := (sems_eq (F := F) c) $$ [Hos Hus]
  · isplitl [Hos] <;> iassumption
  imod ha $$ [Hv Hst] with Hinv
  · isplitl [Hv] <;> iassumption
  imodintro
  isplitl [Hinv]; · iexact Hinv
  isplitl [Hat]; · iexact Hat
  iexact Htok

def ring : Dev nD ≃ Dev nD := ⟨nxt, prv, prv_nxt, nxt_prv⟩

/-- What stays with device `c` once the tokens have gone to those who pay. -/
def share (c : Dev nD) : sProp 𝕄 :=
  iprop(pos c 0 ∗ atPos ER (cB c) 0 ∅ 0 ∗ reached ER (cB (prv c)) 0 ∗ dutyTok ER (cB (prv c)) 0 ()
    ∗ bigSep (Finset.Ico 0 186) fun t => iprop(dutyTok ER (cS c t) (t / 62) () ∗ dutyTok ER (cR (nxt c) t) (t / 62) ()))

theorem posn_all (c : Dev nD) : (bigSep Finset.univ fun o : Option (Fin 128) => (posn (cell c o) 0 : sProp 𝕄))
    = iprop((atPos ER (cB c) 0 ∅ 0 ∗ reached ER (cB c) 0) ∗ pos c 0) := by
  rw [bigSep_opt]
  have e : (bigSep Finset.univ fun k : Fin 128 => (posn (cell c (some k)) 0 : sProp 𝕄)) = pos c 0 :=
    bigSep_congr fun k _ => by rw [rnd_zero k.val k.isLt]
  rw [e]
  rfl

theorem deal : (bigSep Finset.univ fun c : Dev nD => iprop((bigSep Finset.univ fun o : Option (Fin 128) => (posn (cell c o) 0 : sProp 𝕄)) ∗ toks c))
    ⊢ bigSep Finset.univ fun c : Dev nD => share c := by
  have e1 : (bigSep Finset.univ fun c : Dev nD => iprop((bigSep Finset.univ fun o : Option (Fin 128) => (posn (cell c o) 0 : sProp 𝕄)) ∗ toks c))
      = bigSep Finset.univ fun c : Dev nD => iprop(((atPos ER (cB c) 0 ∅ 0 ∗ reached ER (cB c) 0) ∗ pos c 0) ∗ toks c) :=
    bigSep_congr fun c _ => by rw [posn_all]
  rw [e1]
  unfold toks share
  simp only [bigSep_sep']
  rw [bigSep_univ_equiv ring.symm (fun c : Dev nD => (reached ER (cB c) 0 : sProp 𝕄)),
    bigSep_univ_equiv ring.symm (fun c : Dev nD => (dutyTok ER (cB c) 0 () : sProp 𝕄)),
    bigSep_univ_equiv ring (fun c : Dev nD => bigSep (Finset.Ico 0 186) fun t => (dutyTok ER (cR c t) (t / 62) () : sProp 𝕄))]
  iintro ⟨⟨⟨H1, H2⟩, H3⟩, H4, H5, H6⟩
  isplitl [H3]; · iexact H3
  isplitl [H1]; · iexact H1
  isplitl [H2]; · iexact H2
  isplitl [H4]; · iexact H4
  isplitl [H5]; · iexact H5
  iexact H6

theorem to_ghost (K : Dev nD × Option (Fin 128) → ℕ) (c : Dev nD) : iprop(invs (inp m) K ∗ share c) ⊢ G' m c := by
  unfold share G' ghost
  iintro ⟨#HI, H⟩
  iexists K
  isplitr; · iexact HI
  iexact H

theorem regroup :
    (bigSep Finset.univ fun c : Dev nD => iprop((bigSep Finset.univ fun o => iprop(∃ κ : ℕ, cellInv ER (Rd (inp m)) κ (cell c o)))
          ∗ (bigSep Finset.univ fun o : Option (Fin 128) => posn (cell c o) 0) ∗ toks c) : sProp 𝕄)
      ⊢ bigSep Finset.univ (G' m) := by
  rw [bigSep_sep', ← bigSep_univ_prod (fun x : Dev nD × Option (Fin 128) => iprop(∃ κ : ℕ, cellInv ER (Rd (inp m)) κ (cell x.1 x.2)))]
  iintro ⟨HI, Hrest⟩
  ihave HK := (BI.bigSep_exists_pi Finset.univ (fun (x : Dev nD × Option (Fin 128)) (κ : ℕ) => (cellInv ER (Rd (inp m)) κ (cell x.1 x.2) : sProp 𝕄))) $$ HI
  icases HK with ⟨%K, HI⟩
  ihave Hd := (deal (F := F)) $$ Hrest
  iapply (each_with Finset.univ (invs (inp m) K) fun c _ => to_ghost m K c)
  isplitl [HI]
  · unfold invs; iexact HI
  iexact Hd

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem creds (c : Dev nD) : (Pipeline.launchCred owed₀ c : sProp 𝕄) ⊢ credits c := by
  have e : (owed₀ : Dev nD → CellTallies nD τ sig ℕ)
      = fun d => (∑ u ∈ Finset.Ico 0 186, (fun (u : ℕ) (d : Dev nD) => tallyAt (cR (nxt d) u) (u + 2) N) u d) + tallyAt (cB (prv d)) 1 1 := rfl
  rw [e, Pipeline.launchCred_add, Pipeline.launchCred_sum]
  unfold credits
  iintro ⟨HR, HB⟩
  isplitl [HB]
  · iapply (Pipeline.launchCred_tallyAt (SemLoc.reg barS) prv nxt prv_nxt nxt_prv 1 1 c); iexact HB
  · have h : (bigSep (Finset.Ico 0 186) fun u => Pipeline.launchCred (fun d : Dev nD => tallyAt (cR (nxt d) u) (u + 2) N) c)
        ⊢ (bigSep (Finset.Ico 0 186) fun t => cred (tallyAt (cR c t) (t + 2) N) : sProp 𝕄) :=
      bigSep_mono fun t _ => Pipeline.launchCred_tallyAt (osem (kR t)) nxt prv nxt_prv prv_nxt (t + 2) N c
    iapply h; iexact HR

/-! ### The run -/

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ |={Set.univ}=> iprop(start (inp m) c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi_in (c : Dev nD) :
    iprop(start (inp m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ (inp m) c from rfl, scopedRest0_eq]
  unfold Φ₀ scratch
  iintro ⟨Hs, -, Hr⟩
  isplitl [Hs]; · iexact Hs
  iexact Hr

theorem phi_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscoped_eq]
  unfold Φ₁ scratch Pipeline.ownSems0
  iintro ⟨HS, HB, Hr⟩
  isplitl [HB]; · iexact HB
  isplitl [HS]; · iexact HS
  iexact Hr

theorem L_off (g : GSem nD τ sig) (h : g.1.2 ≠ .tc) : L g = ∅ := if_neg h

theorem owed₀_pos {d : Dev nD} {g : GSem nD τ sig} {u : ℕ} (h : 0 < owed₀ d g u) : g.1.2 = .tc ∧ u < 188 ∧ 0 < u := by
  unfold owed₀ at h
  rw [Pi.add_apply, Finsupp.add_apply, tallyAt_apply] at h
  by_cases hz : 0 < owed d 0 g u
  · obtain ⟨s, _, h2, h3, h4⟩ := owed_pos hz
    subst h3; exact ⟨rfl, by omega, by omega⟩
  · by_cases hb : g = cB (prv d) ∧ u = 1
    · obtain ⟨h1, h2⟩ := hb
      subst h1; exact ⟨rfl, by omega, by omega⟩
    · rw [if_neg hb] at h; omega

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact may_wait c _ 0 (owed₀ c) (by decide) fun g u hg => owed₀_pos hg
    · exact may_wait c _ 0 0 (by decide) fun g u hg => absurd hg (Nat.lt_irrefl 0)

/-- What array `w` holds at the end. -/
def finalA (c : Dev nD) (w : Fin cfg0.W) : Buf (Elt F) ((cfg0.win w).arr.view.loc (c : Thread nD τ)) := (dats m ρ 0 c).arrAt w cfg0.N

set_option maxRecDepth 8000 in
/-- @main on the mesh, from any memory with zero counters: it terminates, each array holds `finalA`, each counter is zero. -/
theorem run_main : θ_run defs (onTc (τ := τ) (main (F := F))) (st₀ m ρ)
    (fun r => (∀ (c : Dev nD) (w : Fin cfg0.W), r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ Variants.none m ρ main
    (hmain := fun _ => rfl)
    (hbody := body_obligation m ρ) (hne := block_pos0) (harr := arr_whole0) (hstage := stage_whole0) (hshare := share_eq m ρ)
    (hdistinct := winFacts0.arr_inj)
    (O₀ := owed₀) (howed₀ := fun _ => rfl) (howedN := fun _ => rfl)
    (L := L) (lv := lv) (hL := L_off) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start (inp m)) (Y := fun c => unscopedSems0 c) (Z := fun _ => iprop(emp))
    (hX := start_intro m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdealProof

end
-- ==== Proof.IdealRun.lean ====
/-
What the run leaves on each device, in terms of the seven argument arrays.
-/
module

public import proofs.«01_k».proof.Proof.IdealLaunch
public import Idealize.SL.BI.BigOpNat
public import Idealize.ShloMosaic.Lib.Pipeline.Value
public import Idealize.ShloMosaic.Lib.Pipeline.ValueKit

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

section Reads

variable (c : Dev nD)

theorem read_arg0 (f : Buf (Elt F) (((c : Dev nD) : Thread nD τ).loc main_arg0)) : (win0_0.blk t0_0).view.read (Elt F) f = f :=
  Memref.read_access_unit_zero _ main_arg0 (funext fun a => by fin_cases a <;> rfl) _ f
theorem read_arg1 (f : Buf (Elt F) (((c : Dev nD) : Thread nD τ).loc main_arg1)) : (win0_1.blk t0_0).view.read (Elt F) f = f :=
  Memref.read_access_unit_zero _ main_arg1 (funext fun a => by fin_cases a <;> rfl) _ f
theorem read_arg2 (f : Buf (Elt F) (((c : Dev nD) : Thread nD τ).loc main_arg2)) : (win0_3.blk t0_0).view.read (Elt F) f = f :=
  Memref.read_access_unit_zero _ main_arg2 (funext fun a => by fin_cases a <;> rfl) _ f
theorem read_arg3 (f : Buf (Elt F) (((c : Dev nD) : Thread nD τ).loc main_arg3)) : (win0_5.blk t0_0).view.read (Elt F) f = f :=
  Memref.read_access_unit_zero _ main_arg3 (funext fun a => by fin_cases a <;> rfl) _ f
theorem read_arg4 (f : Buf (Elt F) (((c : Dev nD) : Thread nD τ).loc main_arg4)) : (win0_2.blk t0_0).view.read (Elt F) f = f :=
  Memref.read_access_unit_zero _ main_arg4 (funext fun a => by fin_cases a <;> rfl) _ f
theorem read_arg5 (f : Buf (Elt F) (((c : Dev nD) : Thread nD τ).loc main_arg5)) : (win0_4.blk t0_0).view.read (Elt F) f = f :=
  Memref.read_access_unit_zero _ main_arg5 (funext fun a => by fin_cases a <;> rfl) _ f
theorem read_arg6 (f : Buf (Elt F) (((c : Dev nD) : Thread nD τ).loc main_arg6)) : (win0_6.blk t0_0).view.read (Elt F) f = f :=
  Memref.read_access_unit_zero _ main_arg6 (funext fun a => by fin_cases a <;> rfl) _ f

end Reads

/-- The output array ends holding the device's last block. -/
theorem final_out (c : Dev nD) : finalA m ρ c (7 : Fin 8) = acts (inp m) 3 c := by
  unfold finalA
  refine (dats m ρ 0 c).arrAt_eq_of_after_last (7 : Fin 8) t0_0 (by decide +kernel) _ fun j => ?_
  rfl

theorem run_claim : θ_run defs (onTc (τ := τ) (main (F := F))) ⟨m, fun _ => 0, ρ⟩ (fun r => (∀ c : Dev nD,
      r.2.mem ((c.tc : Thread nD τ).loc main_v1) = acts (inp m) 3 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c (7 : Fin 8)).trans (final_out m ρ c), (h.1 c (0 : Fin 8)).trans ((dats m ρ 0 c).arrAt_in (0 : Fin 8) rfl _),
    (h.1 c (1 : Fin 8)).trans ((dats m ρ 0 c).arrAt_in (1 : Fin 8) rfl _),
    (h.1 c (3 : Fin 8)).trans ((dats m ρ 0 c).arrAt_in (3 : Fin 8) rfl _),
    (h.1 c (5 : Fin 8)).trans ((dats m ρ 0 c).arrAt_in (5 : Fin 8) rfl _),
    (h.1 c (2 : Fin 8)).trans ((dats m ρ 0 c).arrAt_in (2 : Fin 8) rfl _),
    (h.1 c (4 : Fin 8)).trans ((dats m ρ 0 c).arrAt_in (4 : Fin 8) rfl _),
    (h.1 c (6 : Fin 8)).trans ((dats m ρ 0 c).arrAt_in (6 : Fin 8) rfl _)⟩, h.2⟩) (run_main m ρ)

end Cert.KernelIdealProof

end
-- ==== Proof.Layer.lean ====
/-
One layer of the network as a formula, and the host's and the kernel's products read down to it.
-/
module

public import proofs.«01_k».proof.Proof.Gen.ReferenceIdeal.Run
public import proofs.«01_k».proof.Proof.IdealValues
public import Idealize.ShloMosaic.PureOps.Ideal
public import Idealize.ShloMosaic.Lib.Layout
public import Idealize.ShloMosaic.Lib.Pointwise

@[expose] public section

noncomputable section

namespace Cert.LayerMath

open Idealize.ShloMosaic Idealize.ShloMosaic.StableHlo

/-- The host's two products with the clamp between them. -/
abbrev hostLayer (X : FVec Ideal ReferenceIdeal.S2048x512 .f32) (W : FVec Ideal ReferenceIdeal.S512x32768 .f32) (V : FVec Ideal ReferenceIdeal.S32768x512 .f32) :
    FVec Ideal ReferenceIdeal.S2048x512 .f32 :=
  Host.dotGeneral ReferenceIdeal.dot_S2048x32768_S32768x512_S2048x512_1_0_0_1_n_n none
    (maximumf (Host.dotGeneral ReferenceIdeal.dot_S2048x512_S512x32768_S2048x32768_1_0_0_1_n_n none X W)
      (broadcastInDim ReferenceIdeal.S2048x32768 ![] ReferenceIdeal.Gen.bcast_S_S2048x32768 (constant ReferenceIdeal.S_ .f32 0x00000000#32))) V

theorem hostLayer_apply (X W V i) : hostLayer X W V i = ∑ k : Fin 32768, max (∑ q : Fin 512, X (ix2 (i 0) q) * W (ix2 q k)) 0 * V (ix2 k (i 1)) := by
  pointwise [hostLayer]

theorem mlp_apply (w : FVec Ideal KernelIdeal.S512x1024 .f32) (v : FVec Ideal KernelIdeal.S1024x512 .f32) (x : FVec Ideal KernelIdeal.S256x512 .f32) (j) :
    KernelIdealProof.mlp w v x j = ∑ k : Fin 1024, max (∑ q : Fin 512, x (ix2 (j 0) q) * w (ix2 q k)) 0 * v (ix2 k (j 1)) := by
  pointwise [KernelIdealProof.mlp, KernelIdeal.Gen.k0_pay8]

open KernelIdealProof

/-- A device's partial product, entry by entry: the 256-row blocking is not seen. -/
theorem partialOf_apply (w : FVec Ideal KernelIdeal.S512x1024 .f32) (v : FVec Ideal KernelIdeal.S1024x512 .f32) (G : FVec Ideal KernelIdeal.S2048x512 .f32) (i) :
    partialOf w v G i = ∑ k : Fin 1024, max (∑ q : Fin 512, G (ix2 (i 0) q) * w (ix2 q k)) 0 * v (ix2 k (i 1)) := by
  have h0 : (i 0).val < 2048 := (i 0).isLt
  have h1 : (i 1).val < 512 := (i 1).isLt
  refine (mlp_apply w v _ _).trans (Finset.sum_congr rfl fun k _ => ?_)
  have ev : (ix256 (i 0).val (i 1).val) 1 = i 1 := Fin.ext (Nat.mod_eq_of_lt h1)
  rw [ev]
  refine congrArg (fun e => max e 0 * v (ix2 k (i 1))) (Finset.sum_congr rfl fun q _ => ?_)
  refine congrArg (fun e => G e * w (ix2 q k)) ?_
  refine funext fun a => Fin.ext ?_
  fin_cases a
  · show (256 * ((i 0).val / 256) + (i 0).val % 256) % 2048 = (i 0).val
    omega
  · exact Nat.mod_eq_of_lt q.isLt

/-- The ring sum is the sum over the devices passed, in whatever order. -/
theorem ringSum_apply (P : Dev KernelIdeal.nD → FVec Ideal KernelIdeal.S2048x512 .f32) : ∀ (s : ℕ) (d : Dev KernelIdeal.nD) (j),
    ringSum P s d j = ∑ t ∈ Finset.range (s + 1), row64 (P (back d t)) (back d (s + 1)).val j
  | 0, d, j => by rw [Finset.sum_range_one, back_zero]; rfl
  | s + 1, d, j => by
    rw [Finset.sum_range_succ', back_zero]
    have h := ringSum_apply P s (prv d) j
    simp only [back_back, Nat.add_comm 1] at h
    exact congrArg (· + row64 (P d) (back d (s + 2)).val j) h

/-- Going once round the ring meets every device once. -/
theorem sum_round {M : Type} [AddCommMonoid M] (f : Dev KernelIdeal.nD → M) (d : Dev KernelIdeal.nD) :
    ∑ t ∈ Finset.range 32, f (back d t) = ∑ c, f c := by
  refine Finset.sum_bij' (fun t _ => back d t) (fun c _ => (d.val + 32 - c.val) % 32) (fun _ _ => Finset.mem_univ _)
    (fun c _ => Finset.mem_range.2 (Nat.mod_lt _ (by decide))) (fun t ht => ?_) (fun c _ => ?_) (fun _ _ => rfl)
  · have := Finset.mem_range.1 ht
    have hd := dev_lt d
    rw [back_val]
    omega
  · have hd := dev_lt d
    have hc := dev_lt c
    refine Fin.ext ?_
    rw [back_val]
    omega

/-- A sum over 32768 places, as 32 sums over 1024. -/
theorem sum_split {M : Type} [AddCommMonoid M] (f : Fin 32768 → M) :
    ∑ k, f k = ∑ c : Fin 32, ∑ k : Fin 1024, f ⟨c.val * 1024 + k.val, by omega⟩ := by
  rw [← Fintype.sum_prod_type' (f := fun (c : Fin 32) (k : Fin 1024) => f ⟨c.val * 1024 + k.val, by omega⟩)]
  refine ((finProdFinEquiv (m := 32) (n := 1024)).sum_comp f).symm.trans (Finset.sum_congr rfl fun p _ => congrArg f (Fin.ext ?_))
  show p.2.val + 1024 * p.1.val = p.1.val * 1024 + p.2.val
  omega

/-- Device `c`'s rows of a whole array of activations. -/
abbrev rowsOf (X : FVec Ideal KernelIdeal.S2048x512 .f32) (c : Dev KernelIdeal.nD) : FVec Ideal KernelIdeal.S64x512 .f32 :=
  Layout.block ⟨2, ![64, 512]⟩ ⟨2, ![2048, 512]⟩ 0 32 c X
/-- Device `c`'s columns of an input weight. -/
abbrev winOf (W : FVec Ideal ReferenceIdeal.S512x32768 .f32) (c : Dev KernelIdeal.nD) : FVec Ideal KernelIdeal.S512x1024 .f32 :=
  Layout.block ⟨2, ![512, 1024]⟩ ⟨2, ![512, 32768]⟩ 1 32 c W
/-- Device `c`'s rows of an output weight. -/
abbrev woutOf (V : FVec Ideal ReferenceIdeal.S32768x512 .f32) (c : Dev KernelIdeal.nD) : FVec Ideal KernelIdeal.S1024x512 .f32 :=
  Layout.block ⟨2, ![1024, 512]⟩ ⟨2, ![32768, 512]⟩ 0 32 c V

/-- A device's rows are the 64-row block of its number. -/
theorem row64_eq (X : FVec Ideal KernelIdeal.S2048x512 .f32) (c : Dev KernelIdeal.nD) : row64 X c.val = rowsOf X c := by
  have hc := dev_lt c
  funext j
  have h0 : (j 0).val < 64 := (j 0).isLt
  refine congrArg X (funext fun a => Fin.ext ?_)
  fin_cases a
  · show (64 * c.val + (j 0).val) % 2048 = c.val * 64 + (j 0).val
    omega
  · exact Nat.mod_eq_of_lt (j 1).isLt

/-- Gathering every device's rows gives the whole array back. -/
theorem gathered_rowsOf (X : FVec Ideal KernelIdeal.S2048x512 .f32) : gathered (rowsOf X) = X := by
  funext i
  have h0 : (i 0).val < 2048 := (i 0).isLt
  refine congrArg X (funext fun a => Fin.ext ?_)
  fin_cases a
  · show (i 0).val / 64 % 32 * 64 + (i 0).val % 64 = (i 0).val
    omega
  · exact Nat.mod_eq_of_lt (i 1).isLt

/-- One layer on the ring, from the devices' shares of whole arrays, is the devices' shares of the host's layer. -/
theorem ring_layer (X W V) (d : Dev KernelIdeal.nD) :
    ringSum (fun c => partialOf (winOf W c) (woutOf V c) (gathered (rowsOf X))) 31 d = rowsOf (hostLayer X W V) d := by
  funext j
  rw [gathered_rowsOf, ringSum_apply, show back d (31 + 1) = d from Fin.ext (by have := dev_lt d; rw [back_val]; omega)]
  rw [sum_round (fun c => row64 (partialOf (winOf W c) (woutOf V c) X) d.val j) d]
  rw [show rowsOf (hostLayer X W V) d j = row64 (hostLayer X W V) d.val j from congrFun (row64_eq _ d).symm j]
  refine Eq.trans ?_ (hostLayer_apply X W V _).symm
  rw [sum_split]
  refine Finset.sum_congr rfl fun c _ => ?_
  refine (partialOf_apply (winOf W c) (woutOf V c) X _).trans (Finset.sum_congr rfl fun k _ => ?_)
  have ew : ∀ q : Fin 512, winOf W c (ix2 q k) = W (ix2 q ⟨c.val * 1024 + k.val, by have := dev_lt c; omega⟩) := fun q =>
    congrArg W (funext fun a => Fin.ext (by fin_cases a <;> rfl))
  have ev : ∀ q : Fin 512, woutOf V c (ix2 k q) = V (ix2 ⟨c.val * 1024 + k.val, by have := dev_lt c; omega⟩ q) := fun q =>
    congrArg V (funext fun a => Fin.ext (by fin_cases a <;> rfl))
  simp only [ew]
  exact congrArg (_ * ·) (ev _)

/-- The three layers: from the devices' shares of the arguments the ring computes the devices' shares of the host's result. -/
theorem acts_three (I : Inp Ideal) (X W₀ W₁ W₂ V₀ V₁ V₂) (hx : I.x = rowsOf X)
    (hw₀ : I.win 0 = winOf W₀) (hw₁ : I.win 1 = winOf W₁) (hw₂ : I.win 2 = winOf W₂)
    (hv₀ : I.wout 0 = woutOf V₀) (hv₁ : I.wout 1 = woutOf V₁) (hv₂ : I.wout 2 = woutOf V₂) :
    acts I 3 = rowsOf (hostLayer (hostLayer (hostLayer X W₀ V₀) W₁ V₁) W₂ V₂) := by
  have step : ∀ (l : ℕ) (Y W V), acts I l = rowsOf Y → I.win l = winOf W → I.wout l = woutOf V → acts I (l + 1) = rowsOf (hostLayer Y W V) := by
    intro l Y W V h hw hv
    funext d
    refine Eq.trans ?_ (ring_layer Y W V d)
    show ringSum (partials I l (acts I l)) 31 d = _
    rw [h]
    unfold partials
    rw [hw, hv]
  exact step 2 _ _ _ (step 1 _ _ _ (step 0 _ _ _ hx hw₀ hv₀) hw₁ hv₁) hw₂ hv₂

end Cert.LayerMath

end
-- ==== Proof.lean ====
/-
The proof of `Cert.Claim`: the frames of the three programs, and the value claim.

The kernel's run is proved once for any float values (`Proof/Ideal….lean` for the idealized program, `Proof/Bits….lean`
for the program as printed): each device ends with its block of the third layer's activations, its arguments unchanged
and every counter at zero. `Proof/Layer.lean` shows that over the extended reals those blocks are the blocks of the
host's three layers.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.BitsRun
public import proofs.«01_k».proof.Proof.IdealRun
public import proofs.«01_k».proof.Proof.Layer
public import Idealize.ShloMosaic.Adequacy
public import Idealize.ShloMosaic.Init

@[expose] public section

noncomputable section

namespace Cert.Proof

open Idealize.ShloMosaic Idealize.SL.Sem

/-- The kernel as printed runs, keeps its arguments and ends with every counter at zero. -/
theorem frame_kernel : Cert.quiescent_Kernel := fun m ρ _ =>
  (θ_run Cert.Kernel.defs _ _).mono (fun _ h => ⟨fun c => (h.1 c).2, h.2⟩) (Cert.KernelProof.run_claim (F := Bits) m ρ)

/-- So does the idealized kernel. -/
theorem frame_ideal : Cert.quiescent_KernelIdeal := fun m ρ _ =>
  (θ_run Cert.KernelIdeal.defs _ _).mono (fun _ h => ⟨fun c => (h.1 c).2, h.2⟩) (Cert.KernelIdealProof.run_claim (F := Ideal) m ρ)

/-- And the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is its block of the reference's result. -/
theorem values : Cert.algebraic_KernelIdeal_ReferenceIdeal := by
  intro m ρ m' ρ' _ hag
  refine ⟨_, (θ_run Cert.KernelIdeal.defs _ _).mono (fun r h c => ⟨(h.1 c).1.trans ?_, (h.1 c).2⟩) (Cert.KernelIdealProof.run_claim (F := Ideal) m ρ),
    (θ_run Cert.ReferenceIdeal.defs _ _).mono (fun _ h => h 0) (Cert.ReferenceIdeal.Value.run (F := Ideal) m' ρ')⟩
  exact congrFun (Cert.LayerMath.acts_three (Cert.KernelIdealProof.inp m) _ _ _ _ _ _ _
    (funext fun d => (Cert.KernelIdealProof.read_arg0 d _).trans (hag d).1)
    (funext fun d => (Cert.KernelIdealProof.read_arg1 d _).trans (hag d).2.1)
    (funext fun d => (Cert.KernelIdealProof.read_arg2 d _).trans (hag d).2.2.1)
    (funext fun d => (Cert.KernelIdealProof.read_arg3 d _).trans (hag d).2.2.2.1)
    (funext fun d => (Cert.KernelIdealProof.read_arg4 d _).trans (hag d).2.2.2.2.1)
    (funext fun d => (Cert.KernelIdealProof.read_arg5 d _).trans (hag d).2.2.2.2.2.1)
    (funext fun d => (Cert.KernelIdealProof.read_arg6 d _).trans (hag d).2.2.2.2.2.2)) c

theorem claim : Cert.Claim :=
  ⟨Cert.Kernel.Gen.facts, Cert.KernelIdeal.Gen.facts, Cert.ReferenceIdeal.Gen.facts,
    frame_kernel, frame_ideal, frame_reference, trivial, values⟩

end Cert.Proof

end
